-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x16x768x32x32 : Shape := ⟨5, ![2, 16, 768, 32, 32]⟩
abbrev S16x1x512x512 : Shape := ⟨4, ![16, 1, 512, 512]⟩
abbrev S_ : Shape := ⟨0, ![]⟩

class Facts : Prop where
  bcast_S_S2x16x768x32x32 : S_.BroadcastsInDim S2x16x768x32x32 (![] : Fin 0 → Fin S2x16x768x32x32.rank)

variable [Facts]

def fn {F : FTy → Type} [FloatOps F] (main_arg0 : FVec F S2x16x768x32x32 .f32) (main_arg1 : FVec F S16x1x512x512 .f32) : IVec S2x16x768x32x32 1 :=
  let main_v0 : FVec F S2x16x768x32x32 .f32 := Host.absf main_arg0
  let main_cst : FVec F S_ .f32 := constant S_ .f32 0x7F800000#32
  let main_v1 : FVec F S2x16x768x32x32 .f32 := broadcastInDim S2x16x768x32x32 ![] bcast_S_S2x16x768x32x32 main_cst
  let main_v2 : IVec S2x16x768x32x32 1 := cmpf .olt main_v0 main_v1
  main_v2
-- ==== Kernel.lean ====
abbrev S2x16x768x32x32 : Shape := ⟨5, ![2, 16, 768, 32, 32]⟩
abbrev S16x1x512x512 : Shape := ⟨4, ![16, 1, 512, 512]⟩
abbrev S32 : Shape := ⟨1, ![32]⟩
abbrev S_ : Shape := ⟨0, ![]⟩
abbrev S1x32 : Shape := ⟨2, ![1, 32]⟩
abbrev S512 : Shape := ⟨1, ![512]⟩
abbrev S512x1 : Shape := ⟨2, ![512, 1]⟩
abbrev S512x32 : Shape := ⟨2, ![512, 32]⟩
abbrev S32x512 : Shape := ⟨2, ![32, 512]⟩
abbrev S16x512x512 : Shape := ⟨3, ![16, 512, 512]⟩
abbrev S16x32x32 : Shape := ⟨3, ![16, 32, 32]⟩
abbrev S1x512x512 : Shape := ⟨3, ![1, 512, 512]⟩
abbrev S1x32x32 : Shape := ⟨3, ![1, 32, 32]⟩
abbrev S512x512 : Shape := ⟨2, ![512, 512]⟩
abbrev S32x32 : Shape := ⟨2, ![32, 32]⟩
abbrev S16x1024x1 : Shape := ⟨3, ![16, 1024, 1]⟩
abbrev S16 : Shape := ⟨1, ![16]⟩
abbrev S2x16x32x32x768 : Shape := ⟨5, ![2, 16, 32, 32, 768]⟩
abbrev S2x16x1024x768 : Shape := ⟨4, ![2, 16, 1024, 768]⟩
abbrev S16x2x6x768 : Shape := ⟨4, ![16, 2, 6, 768]⟩
abbrev S1x1x1024x768 : Shape := ⟨4, ![1, 1, 1024, 768]⟩
abbrev S1 : Shape := ⟨1, ![1]⟩
abbrev S1x1024x1 : Shape := ⟨3, ![1, 1024, 1]⟩
abbrev S1x1x6x768 : Shape := ⟨4, ![1, 1, 6, 768]⟩
abbrev S1024x1 : Shape := ⟨2, ![1024, 1]⟩
abbrev S1x1x1 : Shape := ⟨3, ![1, 1, 1]⟩
abbrev S1024x768 : Shape := ⟨2, ![1024, 768]⟩
abbrev S768 : Shape := ⟨1, ![768]⟩
abbrev S1x1x1x768 : Shape := ⟨4, ![1, 1, 1, 768]⟩
abbrev S3x768 : Shape := ⟨2, ![3, 768]⟩
abbrev S1x1x3x768 : Shape := ⟨4, ![1, 1, 3, 768]⟩
abbrev S16x9216 : Shape := ⟨2, ![16, 9216]⟩

abbrev nBuf : Space → Nat
  | .hbm => 86
  | .vmem => 11
  | .smem => 1
  | _ => 0

abbrev bufTy : (tb : Table) → Fin (tcTables nBuf tb) → BufTy
  | .hbm, ⟨0, _⟩ => ⟨S2x16x768x32x32, .f32⟩
  | .hbm, ⟨1, _⟩ => ⟨S16x1x512x512, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S512, .f32⟩
  | .hbm, ⟨17, _⟩ => ⟨S512x1, .f32⟩
  | .hbm, ⟨18, _⟩ => ⟨S512x32, .f32⟩
  | .hbm, ⟨19, _⟩ => ⟨S512x32, .f32⟩
  | .hbm, ⟨20, _⟩ => ⟨S512x32, .f32⟩
  | .hbm, ⟨21, _⟩ => ⟨S512x32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S512x32, .f32⟩
  | .hbm, ⟨27, _⟩ => ⟨S512x32, .f32⟩
  | .hbm, ⟨28, _⟩ => ⟨S512x32, .f32⟩
  | .hbm, ⟨29, _⟩ => ⟨S_, .f32⟩
  | .hbm, ⟨30, _⟩ => ⟨S512x32, .f32⟩
  | .hbm, ⟨31, _⟩ => ⟨S512x32, .f32⟩
  | .hbm, ⟨32, _⟩ => ⟨S_, .f32⟩
  | .hbm, ⟨33, _⟩ => ⟨S512x32, .f32⟩
  | .hbm, ⟨34, _⟩ => ⟨S512x32, .f32⟩
  | .hbm, ⟨35, _⟩ => ⟨S_, .f32⟩
  | .hbm, ⟨36, _⟩ => ⟨S32, .f32⟩
  | .hbm, ⟨37, _⟩ => ⟨S1x32, .f32⟩
  | .hbm, ⟨38, _⟩ => ⟨S1x32, .f32⟩
  | .hbm, ⟨39, _⟩ => ⟨S_, .f32⟩
  | .hbm, ⟨40, _⟩ => ⟨S1x32, .f32⟩
  | .hbm, ⟨41, _⟩ => ⟨S1x32, .i1⟩
  | .hbm, ⟨42, _⟩ => ⟨S_, .f32⟩
  | .hbm, ⟨43, _⟩ => ⟨S1x32, .f32⟩
  | .hbm, ⟨44, _⟩ => ⟨S1x32, .i1⟩
  | .hbm, ⟨45, _⟩ => ⟨S_, .i32⟩
  | .hbm, ⟨46, _⟩ => ⟨S_, .f32⟩
  | .hbm, ⟨47, _⟩ => ⟨S1x32, .f32⟩
  | .hbm, ⟨48, _⟩ => ⟨S1x32, .f32⟩
  | .hbm, ⟨49, _⟩ => ⟨S512x32, .f32⟩
  | .hbm, ⟨50, _⟩ => ⟨S512x32, .f32⟩
  | .hbm, ⟨51, _⟩ => ⟨S_, .i32⟩
  | .hbm, ⟨52, _⟩ => ⟨S_, .f32⟩
  | .hbm, ⟨53, _⟩ => ⟨S512x32, .i1⟩
  | .hbm, ⟨54, _⟩ => ⟨S512x32, .f32⟩
  | .hbm, ⟨55, _⟩ => ⟨S512x32, .f32⟩
  | .hbm, ⟨56, _⟩ => ⟨S_, .f32⟩
  | .hbm, ⟨57, _⟩ => ⟨S32, .f32⟩
  | .hbm, ⟨58, _⟩ => ⟨S32, .i1⟩
  | .hbm, ⟨59, _⟩ => ⟨S_, .f32⟩
  | .hbm, ⟨60, _⟩ => ⟨S32, .f32⟩
  | .hbm, ⟨61, _⟩ => ⟨S32, .i1⟩
  | .hbm, ⟨62, _⟩ => ⟨S32, .i1⟩
  | .hbm, ⟨63, _⟩ => ⟨S1x32, .i1⟩
  | .hbm, ⟨64, _⟩ => ⟨S_, .i32⟩
  | .hbm, ⟨65, _⟩ => ⟨S_, .f32⟩
  | .hbm, ⟨66, _⟩ => ⟨S512x32, .i1⟩
  | .hbm, ⟨67, _⟩ => ⟨S512x32, .f32⟩
  | .hbm, ⟨68, _⟩ => ⟨S512x32, .f32⟩
  | .hbm, ⟨69, _⟩ => ⟨S32x512, .f32⟩
  | .hbm, ⟨70, _⟩ => ⟨S16x512x512, .f32⟩
  | .hbm, ⟨71, _⟩ => ⟨S16x32x32, .f32⟩
  | .hbm, ⟨72, _⟩ => ⟨S16x1024x1, .f32⟩
  | .hbm, ⟨73, _⟩ => ⟨S_, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .i1⟩
  | .hbm, ⟨78, _⟩ => ⟨S16, .i32⟩
  | .hbm, ⟨79, _⟩ => ⟨S_, .i32⟩
  | .hbm, ⟨80, _⟩ => ⟨S_, .i32⟩
  | .hbm, ⟨81, _⟩ => ⟨S16, .i32⟩
  | .hbm, ⟨82, _⟩ => ⟨S2x16x32x32x768, .f32⟩
  | .hbm, ⟨83, _⟩ => ⟨S2x16x1024x768, .f32⟩
  | .hbm, ⟨84, _⟩ => ⟨S16x2x6x768, .f32⟩
  | .hbm, ⟨85, _⟩ => ⟨S16x9216, .f32⟩
  | .local _ .vmem, ⟨0, _⟩ => ⟨S32x512, .f32⟩
  | .local _ .vmem, ⟨1, _⟩ => ⟨S1x512x512, .f32⟩
  | .local _ .vmem, ⟨2, _⟩ => ⟨S1x512x512, .f32⟩
  | .local _ .vmem, ⟨3, _⟩ => ⟨S1x32x32, .f32⟩
  | .local _ .vmem, ⟨4, _⟩ => ⟨S1x32x32, .f32⟩
  | .local _ .vmem, ⟨5, _⟩ => ⟨S1x1x1024x768, .f32⟩
  | .local _ .vmem, ⟨6, _⟩ => ⟨S1x1x1024x768, .f32⟩
  | .local _ .vmem, ⟨7, _⟩ => ⟨S1x1024x1, .f32⟩
  | .local _ .vmem, ⟨8, _⟩ => ⟨S1x1024x1, .f32⟩
  | .local _ .vmem, ⟨9, _⟩ => ⟨S1x1x6x768, .f32⟩
  | .local _ .vmem, ⟨10, _⟩ => ⟨S1x1x6x768, .f32⟩
  | .local _ .smem, ⟨0, _⟩ => ⟨S16, .i32⟩
  | _, _ => ⟨S2x16x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_13 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_14 : Ref sig .tc := ⟨.hbm, 73, rfl⟩
abbrev main_v47 : Ref sig .tc := ⟨.hbm, 74, rfl⟩
abbrev main_cst_15 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_16 : Ref sig .tc := ⟨.hbm, 79, rfl⟩
abbrev main_call3_v0 : Ref sig .tc := ⟨.hbm, 80, rfl⟩
abbrev main_call3_v1 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v51 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

abbrev pre1 : Pipeline.Prefetch sig := ⟨1, ![main_v51.idx], fun | 0 => main_v51.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def cc1_transform_0 (k1_off1_inb : ∀ i : grid1.Coords, ∀ a, (k1_off1 i) a + S1.size a ≤ S16.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k1_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x1x1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x6x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S2x16x768x32x32 : Shape := ⟨5, ![2, 16, 768, 32, 32]⟩
abbrev S16x1x512x512 : Shape := ⟨4, ![16, 1, 512, 512]⟩
abbrev S_ : Shape := ⟨0, ![]⟩
abbrev S32 : Shape := ⟨1, ![32]⟩
abbrev S512 : Shape := ⟨1, ![512]⟩
abbrev S1x32 : Shape := ⟨2, ![1, 32]⟩
abbrev S512x1 : Shape := ⟨2, ![512, 1]⟩
abbrev S512x32 : Shape := ⟨2, ![512, 32]⟩
abbrev S32x16x1x512 : Shape := ⟨4, ![32, 16, 1, 512]⟩
abbrev S32x16x1x32 : Shape := ⟨4, ![32, 16, 1, 32]⟩
abbrev S16x1x32x32 : Shape := ⟨4, ![16, 1, 32, 32]⟩
abbrev S16x1024 : Shape := ⟨2, ![16, 1024]⟩
abbrev S1x16x768x32x32 : Shape := ⟨5, ![1, 16, 768, 32, 32]⟩
abbrev S16x768x32x32 : Shape := ⟨4, ![16, 768, 32, 32]⟩
abbrev S16x768x1024 : Shape := ⟨3, ![16, 768, 1024]⟩
abbrev S16 : Shape := ⟨1, ![16]⟩
abbrev S16x1x1024 : Shape := ⟨3, ![16, 1, 1024]⟩
abbrev S16x768 : Shape := ⟨2, ![16, 768]⟩
abbrev S16x1 : Shape := ⟨2, ![16, 1]⟩
abbrev S16x768x1 : Shape := ⟨3, ![16, 768, 1]⟩
abbrev S16x4608 : Shape := ⟨2, ![16, 4608]⟩
abbrev S16x9216 : Shape := ⟨2, ![16, 9216]⟩

abbrev nBuf : Space → Nat
  | .hbm => 262
  | .vmem => 0
  | .smem => 0
  | _ => 0

abbrev hbmTy0_0 (i : Nat) : BufTy := match i % 128 with
  | 0 => ⟨S2x16x768x32x32, .f32⟩
  | 1 => ⟨S16x1x512x512, .f32⟩
  | 2 => ⟨S_, .f32⟩
  | 3 => ⟨S_, .f32⟩
  | 4 => ⟨S_, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S512, .f32⟩
  | 19 => ⟨S1x32, .f32⟩
  | 20 => ⟨S512x1, .f32⟩
  | 21 => ⟨S512x32, .f32⟩
  | 22 => ⟨S512x32, .f32⟩
  | 23 => ⟨S512x32, .f32⟩
  | 24 => ⟨S512x32, .f32⟩
  | 25 => ⟨S_, .f32⟩
  | 26 => ⟨S512x32, .f32⟩
  | 27 => ⟨S512x32, .f32⟩
  | 28 => ⟨S512x32, .f32⟩
  | 29 => ⟨S_, .f32⟩
  | 30 => ⟨S512x32, .f32⟩
  | 31 => ⟨S512x32, .f32⟩
  | 32 => ⟨S_, .f32⟩
  | 33 => ⟨S512x32, .f32⟩
  | 34 => ⟨S512x32, .f32⟩
  | 35 => ⟨S_, .f32⟩
  | 36 => ⟨S32, .f32⟩
  | 37 => ⟨S1x32, .f32⟩
  | 38 => ⟨S1x32, .f32⟩
  | 39 => ⟨S_, .f32⟩
  | 40 => ⟨S1x32, .f32⟩
  | 41 => ⟨S1x32, .i1⟩
  | 42 => ⟨S_, .f32⟩
  | 43 => ⟨S1x32, .f32⟩
  | 44 => ⟨S1x32, .i1⟩
  | 45 => ⟨S_, .f32⟩
  | 46 => ⟨S1x32, .f32⟩
  | 47 => ⟨S1x32, .f32⟩
  | 48 => ⟨S512x32, .f32⟩
  | 49 => ⟨S512x32, .f32⟩
  | 50 => ⟨S512x32, .i1⟩
  | 51 => ⟨S_, .f32⟩
  | 52 => ⟨S512x32, .f32⟩
  | 53 => ⟨S512x32, .f32⟩
  | 54 => ⟨S_, .f32⟩
  | 55 => ⟨S32, .f32⟩
  | 56 => ⟨S32, .i1⟩
  | 57 => ⟨S_, .f32⟩
  | 58 => ⟨S32, .f32⟩
  | 59 => ⟨S32, .i1⟩
  | 60 => ⟨S32, .i1⟩
  | 61 => ⟨S1x32, .i1⟩
  | 62 => ⟨S512x32, .i1⟩
  | 63 => ⟨S_, .f32⟩
  | 64 => ⟨S512x32, .f32⟩
  | 65 => ⟨S512x32, .f32⟩
  | 66 => ⟨S_, .f32⟩
  | 67 => ⟨S_, .f32⟩
  | 68 => ⟨S_, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S512, .f32⟩
  | 83 => ⟨S1x32, .f32⟩
  | 84 => ⟨S512x1, .f32⟩
  | 85 => ⟨S512x32, .f32⟩
  | 86 => ⟨S512x32, .f32⟩
  | 87 => ⟨S512x32, .f32⟩
  | 88 => ⟨S512x32, .f32⟩
  | 89 => ⟨S_, .f32⟩
  | 90 => ⟨S512x32, .f32⟩
  | 91 => ⟨S512x32, .f32⟩
  | 92 => ⟨S512x32, .f32⟩
  | 93 => ⟨S_, .f32⟩
  | 94 => ⟨S512x32, .f32⟩
  | 95 => ⟨S512x32, .f32⟩
  | 96 => ⟨S_, .f32⟩
  | 97 => ⟨S512x32, .f32⟩
  | 98 => ⟨S512x32, .f32⟩
  | 99 => ⟨S_, .f32⟩
  | 100 => ⟨S32, .f32⟩
  | 101 => ⟨S1x32, .f32⟩
  | 102 => ⟨S1x32, .f32⟩
  | 103 => ⟨S_, .f32⟩
  | 104 => ⟨S1x32, .f32⟩
  | 105 => ⟨S1x32, .i1⟩
  | 106 => ⟨S_, .f32⟩
  | 107 => ⟨S1x32, .f32⟩
  | 108 => ⟨S1x32, .i1⟩
  | 109 => ⟨S_, .f32⟩
  | 110 => ⟨S1x32, .f32⟩
  | 111 => ⟨S1x32, .f32⟩
  | 112 => ⟨S512x32, .f32⟩
  | 113 => ⟨S512x32, .f32⟩
  | 114 => ⟨S512x32, .i1⟩
  | 115 => ⟨S_, .f32⟩
  | 116 => ⟨S512x32, .f32⟩
  | 117 => ⟨S512x32, .f32⟩
  | 118 => ⟨S_, .f32⟩
  | 119 => ⟨S32, .f32⟩
  | 120 => ⟨S32, .i1⟩
  | 121 => ⟨S_, .f32⟩
  | 122 => ⟨S32, .f32⟩
  | 123 => ⟨S32, .i1⟩
  | 124 => ⟨S32, .i1⟩
  | 125 => ⟨S1x32, .i1⟩
  | 126 => ⟨S512x32, .i1⟩
  | 127 => ⟨S_, .f32⟩
  | _ => ⟨S2x16x768x32x32, .f32⟩

abbrev hbmTy0_1 (i : Nat) : BufTy := match i % 128 with
  | 0 => ⟨S512x32, .f32⟩
  | 1 => ⟨S512x32, .f32⟩
  | 2 => ⟨S32x16x1x512, .f32⟩
  | 3 => ⟨S32x16x1x32, .f32⟩
  | 4 => ⟨S16x1x32x32, .f32⟩
  | 5 => ⟨S16x1x32x32, .i32⟩
  | 6 => ⟨S_, .i32⟩
  | 7 => ⟨S_, .i32⟩
  | 8 => ⟨S_, .i32⟩
  | 9 => ⟨S16x1x32x32, .i32⟩
  | 10 => ⟨S16x1x32x32, .i32⟩
  | 11 => ⟨S_, .i32⟩
  | 12 => ⟨S16x1x32x32, .i32⟩
  | 13 => ⟨S16x1x32x32, .i32⟩
  | 14 => ⟨S_, .i32⟩
  | 15 => ⟨S16x1x32x32, .i32⟩
  | 16 => ⟨S16x1x32x32, .i1⟩
  | 17 => ⟨S16x1x32x32, .f32⟩
  | 18 => ⟨S16x1024, .f32⟩
  | 19 => ⟨S1x16x768x32x32, .f32⟩
  | 20 => ⟨S16x768x32x32, .f32⟩
  | 21 => ⟨S16x768x1024, .f32⟩
  | 22 => ⟨S_, .f32⟩
  | 23 => ⟨S16, .f32⟩
  | 24 => ⟨S_, .f32⟩
  | 25 => ⟨S16, .f32⟩
  | 26 => ⟨S16, .f32⟩
  | 27 => ⟨S16x1x1024, .f32⟩
  | 28 => ⟨S16x768x1024, .f32⟩
  | 29 => ⟨S16x768x1024, .f32⟩
  | 30 => ⟨S_, .f32⟩
  | 31 => ⟨S16x768, .f32⟩
  | 32 => ⟨S16x1, .f32⟩
  | 33 => ⟨S16x768, .f32⟩
  | 34 => ⟨S16x768, .f32⟩
  | 35 => ⟨S16x768x1, .f32⟩
  | 36 => ⟨S16x768x1024, .f32⟩
  | 37 => ⟨S16x768x1024, .f32⟩
  | 38 => ⟨S16x768x1024, .f32⟩
  | 39 => ⟨S16x768x1024, .f32⟩
  | 40 => ⟨S16x768x1024, .f32⟩
  | 41 => ⟨S_, .f32⟩
  | 42 => ⟨S16x768, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S16x1, .f32⟩
  | 50 => ⟨S16x768, .f32⟩
  | 51 => ⟨S16x768, .f32⟩
  | 52 => ⟨S_, .f32⟩
  | 53 => ⟨S16x1x1024, .f32⟩
  | 54 => ⟨S16x1x1024, .i1⟩
  | 55 => ⟨S_, .f32⟩
  | 56 => ⟨S16x768x1024, .i1⟩
  | 57 => ⟨S16x768x1024, .f32⟩
  | 58 => ⟨S16x768x1024, .f32⟩
  | 59 => ⟨S_, .f32⟩
  | 60 => ⟨S16x768, .f32⟩
  | 61 => ⟨S_, .f32⟩
  | 62 => ⟨S16x1x1024, .f32⟩
  | 63 => ⟨S16x1x1024, .i1⟩
  | 64 => ⟨S_, .f32⟩
  | 65 => ⟨S16x768x1024, .i1⟩
  | 66 => ⟨S16x768x1024, .f32⟩
  | 67 => ⟨S16x768x1024, .f32⟩
  | 68 => ⟨S_, .f32⟩
  | 69 => ⟨S16x768, .f32⟩
  | 70 => ⟨S16x768x1024, .f32⟩
  | 71 => ⟨S16x768x1024, .f32⟩
  | 72 => ⟨S16x768x1024, .f32⟩
  | 73 => ⟨S_, .f32⟩
  | 74 => ⟨S16x768, .f32⟩
  | 75 => ⟨S16x4608, .f32⟩
  | 76 => ⟨S1x16x768x32x32, .f32⟩
  | 77 => ⟨S16x768x32x32, .f32⟩
  | 78 => ⟨S16x768x1024, .f32⟩
  | 79 => ⟨S_, .f32⟩
  | 80 => ⟨S16, .f32⟩
  | 81 => ⟨S_, .f32⟩
  | 82 => ⟨S16, .f32⟩
  | 83 => ⟨S16, .f32⟩
  | 84 => ⟨S16x1x1024, .f32⟩
  | 85 => ⟨S16x768x1024, .f32⟩
  | 86 => ⟨S16x768x1024, .f32⟩
  | 87 => ⟨S_, .f32⟩
  | 88 => ⟨S16x768, .f32⟩
  | 89 => ⟨S16x1, .f32⟩
  | 90 => ⟨S16x768, .f32⟩
  | 91 => ⟨S16x768, .f32⟩
  | 92 => ⟨S16x768x1, .f32⟩
  | 93 => ⟨S16x768x1024, .f32⟩
  | 94 => ⟨S16x768x1024, .f32⟩
  | 95 => ⟨S16x768x1024, .f32⟩
  | 96 => ⟨S16x768x1024, .f32⟩
  | 97 => ⟨S16x768x1024, .f32⟩
  | 98 => ⟨S_, .f32⟩
  | 99 => ⟨S16x768, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S16x1, .f32⟩
  | 107 => ⟨S16x768, .f32⟩
  | 108 => ⟨S16x768, .f32⟩
  | 109 => ⟨S_, .f32⟩
  | 110 => ⟨S16x1x1024, .f32⟩
  | 111 => ⟨S16x1x1024, .i1⟩
  | 112 => ⟨S_, .f32⟩
  | 113 => ⟨S16x768x1024, .i1⟩
  | 114 => ⟨S16x768x1024, .f32⟩
  | 115 => ⟨S16x768x1024, .f32⟩
  | 116 => ⟨S_, .f32⟩
  | 117 => ⟨S16x768, .f32⟩
  | 118 => ⟨S_, .f32⟩
  | 119 => ⟨S16x1x1024, .f32⟩
  | 120 => ⟨S16x1x1024, .i1⟩
  | 121 => ⟨S_, .f32⟩
  | 122 => ⟨S16x768x1024, .i1⟩
  | 123 => ⟨S16x768x1024, .f32⟩
  | 124 => ⟨S16x768x1024, .f32⟩
  | 125 => ⟨S_, .f32⟩
  | 126 => ⟨S16x768, .f32⟩
  | 127 => ⟨S16x768x1024, .f32⟩
  | _ => ⟨S2x16x768x32x32, .f32⟩

abbrev hbmTy0_2 (i : Nat) : BufTy := match i % 128 with
  | 0 => ⟨S16x768x1024, .f32⟩
  | 1 => ⟨S16x768x1024, .f32⟩
  | 2 => ⟨S_, .f32⟩
  | 3 => ⟨S16x768, .f32⟩
  | 4 => ⟨S16x4608, .f32⟩
  | 5 => ⟨S16x9216, .f32⟩
  | _ => ⟨S2x16x768x32x32, .f32⟩

abbrev hbmTy (i : Nat) : BufTy := match i / 128 with
  | 0 => hbmTy0_0 i
  | 1 => hbmTy0_1 i
  | 2 => hbmTy0_2 i
  | _ => ⟨S2x16x768x32x32, .f32⟩

abbrev bufTy : (tb : Table) → Fin (tcTables nBuf tb) → BufTy
  | .hbm, ⟨i, _⟩ => hbmTy i
  | _, _ => ⟨S2x16x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_cst_15 : Ref sig .tc := ⟨.hbm, 66, rfl⟩
abbrev main_cst_16 : Ref sig .tc := ⟨.hbm, 67, rfl⟩
abbrev main_v48 : Ref sig .tc := ⟨.hbm, 68, rfl⟩
abbrev main_v49 : Ref sig .tc := ⟨.hbm, 69, rfl⟩
abbrev main_cst_17 : Ref sig .tc := ⟨.hbm, 70, rfl⟩
abbrev main_v50 : Ref sig .tc := ⟨.hbm, 71, rfl⟩
abbrev main_v51 : Ref sig .tc := ⟨.hbm, 72, rfl⟩
abbrev main_cst_18 : Ref sig .tc := ⟨.hbm, 73, rfl⟩
abbrev main_v52 : Ref sig .tc := ⟨.hbm, 74, rfl⟩
abbrev main_v53 : Ref sig .tc := ⟨.hbm, 75, rfl⟩
abbrev main_cst_19 : Ref sig .tc := ⟨.hbm, 76, rfl⟩
abbrev main_v54 : Ref sig .tc := ⟨.hbm, 77, rfl⟩
abbrev main_v55 : Ref sig .tc := ⟨.hbm, 78, rfl⟩
abbrev main_cst_20 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_21 : Ref sig .tc := ⟨.hbm, 93, rfl⟩
abbrev main_v69 : Ref sig .tc := ⟨.hbm, 94, rfl⟩
abbrev main_v70 : Ref sig .tc := ⟨.hbm, 95, rfl⟩
abbrev main_cst_22 : Ref sig .tc := ⟨.hbm, 96, rfl⟩
abbrev main_v71 : Ref sig .tc := ⟨.hbm, 97, rfl⟩
abbrev main_v72 : Ref sig .tc := ⟨.hbm, 98, rfl⟩
abbrev main_cst_23 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_24 : Ref sig .tc := ⟨.hbm, 103, rfl⟩
abbrev main_v76 : Ref sig .tc := ⟨.hbm, 104, rfl⟩
abbrev main_v77 : Ref sig .tc := ⟨.hbm, 105, rfl⟩
abbrev main_cst_25 : Ref sig .tc := ⟨.hbm, 106, rfl⟩
abbrev main_v78 : Ref sig .tc := ⟨.hbm, 107, rfl⟩
abbrev main_v79 : Ref sig .tc := ⟨.hbm, 108, rfl⟩
abbrev main_cst_26 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_27 : Ref sig .tc := ⟨.hbm, 115, rfl⟩
abbrev main_v85 : Ref sig .tc := ⟨.hbm, 116, rfl⟩
abbrev main_v86 : Ref sig .tc := ⟨.hbm, 117, rfl⟩
abbrev main_cst_28 : Ref sig .tc := ⟨.hbm, 118, rfl⟩
abbrev main_v87 : Ref sig .tc := ⟨.hbm, 119, rfl⟩
abbrev main_v88 : Ref sig .tc := ⟨.hbm, 120, rfl⟩
abbrev main_cst_29 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_30 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c : Ref sig .tc := ⟨.hbm, 134, rfl⟩
abbrev main_c_31 : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_call0_v3 : Ref sig .tc := ⟨.hbm, 139, rfl⟩
abbrev main_call0_v4 : Ref sig .tc := ⟨.hbm, 140, rfl⟩
abbrev main_v100 : Ref sig .tc := ⟨.hbm, 141, rfl⟩
abbrev main_c_32 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_33 : Ref sig .tc := ⟨.hbm, 150, rfl⟩
abbrev main_v108 : Ref sig .tc := ⟨.hbm, 151, rfl⟩
abbrev main_cst_34 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_35 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_36 : Ref sig .tc := ⟨.hbm, 169, rfl⟩
abbrev main_v124 : Ref sig .tc := ⟨.hbm, 170, rfl⟩
abbrev main_cst_37 : Ref sig .tc := ⟨.hbm, 171, rfl⟩
abbrev main_v125 : Ref sig .tc := ⟨.hbm, 172, rfl⟩
abbrev main_v126 : Ref sig .tc := ⟨.hbm, 173, rfl⟩
abbrev main_cst_38 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_39 : Ref sig .tc := ⟨.hbm, 180, rfl⟩
abbrev main_v132 : Ref sig .tc := ⟨.hbm, 181, rfl⟩
abbrev main_v133 : Ref sig .tc := ⟨.hbm, 182, rfl⟩
abbrev main_cst_40 : Ref sig .tc := ⟨.hbm, 183, rfl⟩
abbrev main_call1_v0 : Ref sig .tc := ⟨.hbm, 184, rfl⟩
abbrev main_call1_v1 : Ref sig .tc := ⟨.hbm, 185, rfl⟩
abbrev main_v134 : Ref sig .tc := ⟨.hbm, 186, rfl⟩
abbrev main_cst_41 : Ref sig .tc := ⟨.hbm, 187, rfl⟩
abbrev main_v135 : Ref sig .tc := ⟨.hbm, 188, rfl⟩
abbrev main_cst_42 : Ref sig .tc := ⟨.hbm, 189, rfl⟩
abbrev main_v136 : Ref sig .tc := ⟨.hbm, 190, rfl⟩
abbrev main_v137 : Ref sig .tc := ⟨.hbm, 191, rfl⟩
abbrev main_cst_43 : Ref sig .tc := ⟨.hbm, 192, rfl⟩
abbrev main_call2_v0 : Ref sig .tc := ⟨.hbm, 193, rfl⟩
abbrev main_call2_v1 : Ref sig .tc := ⟨.hbm, 194, rfl⟩
abbrev main_v138 : Ref sig .tc := ⟨.hbm, 195, rfl⟩
abbrev main_cst_44 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_45 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_46 : Ref sig .tc := ⟨.hbm, 207, rfl⟩
abbrev main_v148 : Ref sig .tc := ⟨.hbm, 208, rfl⟩
abbrev main_cst_47 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_48 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_49 : Ref sig .tc := ⟨.hbm, 226, rfl⟩
abbrev main_v164 : Ref sig .tc := ⟨.hbm, 227, rfl⟩
abbrev main_cst_50 : Ref sig .tc := ⟨.hbm, 228, rfl⟩
abbrev main_v165 : Ref sig .tc := ⟨.hbm, 229, rfl⟩
abbrev main_v166 : Ref sig .tc := ⟨.hbm, 230, rfl⟩
abbrev main_cst_51 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_52 : Ref sig .tc := ⟨.hbm, 237, rfl⟩
abbrev main_v172 : Ref sig .tc := ⟨.hbm, 238, rfl⟩
abbrev main_v173 : Ref sig .tc := ⟨.hbm, 239, rfl⟩
abbrev main_cst_53 : Ref sig .tc := ⟨.hbm, 240, rfl⟩
abbrev main_call3_v0 : Ref sig .tc := ⟨.hbm, 241, rfl⟩
abbrev main_call3_v1 : Ref sig .tc := ⟨.hbm, 242, rfl⟩
abbrev main_v174 : Ref sig .tc := ⟨.hbm, 243, rfl⟩
abbrev main_cst_54 : Ref sig .tc := ⟨.hbm, 244, rfl⟩
abbrev main_v175 : Ref sig .tc := ⟨.hbm, 245, rfl⟩
abbrev main_cst_55 : Ref sig .tc := ⟨.hbm, 246, rfl⟩
abbrev main_v176 : Ref sig .tc := ⟨.hbm, 247, rfl⟩
abbrev main_v177 : Ref sig .tc := ⟨.hbm, 248, rfl⟩
abbrev main_cst_56 : Ref sig .tc := ⟨.hbm, 249, rfl⟩
abbrev main_call4_v0 : Ref sig .tc := ⟨.hbm, 250, rfl⟩
abbrev main_call4_v1 : Ref sig .tc := ⟨.hbm, 251, rfl⟩
abbrev main_v178 : Ref sig .tc := ⟨.hbm, 252, rfl⟩
abbrev main_cst_57 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_cst_58 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩

abbrev nD : Nat := 1
abbrev τ : Topo := Topo.v7x

variable {F : FTy → Type} [FloatOps F]
-- ==== Proof.MaskI.lean ====
/- The mask kernel of @main (its first call), at the buffer contents `V` it is entered at: what the body leaves in
   the output window at each grid point, the body's triple, and the proof data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at, which
-- the run instantiates per region
variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S32x512 := Rect.unit (s := S32x512) ![0, 0] S32x512.size inb_S32x512_S32x512_0_0
abbrev r0_1 : Rect S1x512x512 := Rect.unit (s := S1x512x512) ![0, 0, 0] S1x512x512.size inb_S1x512x512_S1x512x512_0_0_0
abbrev r0_2 : Rect S1x32x32 := Rect.unit (s := S1x32x32) ![0, 0, 0] S1x32x32.size inb_S1x32x32_S1x32x32_0_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S32x512 .f32) (x1 : Vec F S1x512x512 .f32) : Vec F S1x32x32 .f32 :=
  View.canon [⟨r0_2, k0_pay1 (View.ld x0 r0_0) (View.ld x1 r0_1)⟩]

/-- Its stores tile the buffer (checked by evaluation), so they cover it. -/
theorem cover0_2 (p0 : Vec F S1x32x32 .f32) (y : S1x32x32.Idx) :
    ∃ pc ∈ ([⟨r0_2, p0⟩] : List (View.Piece (Elt F) S1x32x32 .f32)), y ∈ pc.1.set :=
  View.cover_of_tiled [⟨r0_2, p0⟩] S1x32x32.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S32x512 .f32) (harg1 : arg1.IsWhole) (arg2 : Memref sig .tc .vmem S1x512x512 .f32) (harg2 : arg2.IsWhole) (arg3 : Memref sig .tc .vmem S1x32x32 .f32) (harg3 : arg3.IsWhole)
    (x0 : Vec F S32x512 .f32) (x1 : Vec F S1x512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Runs

end
-- ==== Proof.StatsI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered, and the admissible contents of its prefetched table
variable (V : (c : Dev nD) → (b : Ref sig .tc) → Buf (Elt F) ((c : Thread nD τ).loc b)) (a1 : (pcfg1 (F := F)).Adm)

/-- Window `w`'s block at point `t`, read off its array as the region finds it (`V`). -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

/-- An input window's staging buffer holds its block at every point, for any proof data whose array is `V`'s and whose
    body leaves the block in place. -/
theorem before1_0_of {c : Dev nD} (dat : Dat τ (Elt F) Unit ℕ (UR sig nD τ) ℕ (cfg1 a1) c) (hA : dat.A 0 = V c (Pipeline.arrRef spec1 0))
    (hafter : ∀ t, dat.after 0 t = iblk1 V a1 c 0 t) (t : Fin (cfg1 a1).N) (d) : dat.before 0 t d = iblk1 V a1 c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a1) c) (hA : dat.A 1 = V c (Pipeline.arrRef spec1 1))
    (hafter : ∀ t, dat.after 1 t = iblk1 V a1 c 1 t) (t : Fin (cfg1 a1).N) (d) : dat.before 1 t d = iblk1 V a1 c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rX : Rect S1x1x1024x768 := Rect.unit (s := S1x1x1024x768) ![0, 0, 0, 0] S1x1x1024x768.size inb_S1x1x1024x768_S1x1x1024x768_0_0_0_0
abbrev rW : Rect S1x1024x1 := Rect.unit (s := S1x1024x1) ![0, 0, 0] S1x1024x1.size inb_S1x1024x1_S1x1024x1_0_0_0
abbrev rO0 : Rect S1x1x6x768 := Rect.unit (s := S1x1x6x768) ![0, 0, 0, 0] S1x1x1x768.size inb_S1x1x6x768_S1x1x1x768_0_0_0_0
abbrev rO1 : Rect S1x1x6x768 := Rect.unit (s := S1x1x6x768) ![0, 0, 1, 0] S1x1x1x768.size inb_S1x1x6x768_S1x1x1x768_0_0_1_0
abbrev rO2 : Rect S1x1x6x768 := Rect.unit (s := S1x1x6x768) ![0, 0, 2, 0] S1x1x1x768.size inb_S1x1x6x768_S1x1x1x768_0_0_2_0
abbrev rO3 : Rect S1x1x6x768 := Rect.unit (s := S1x1x6x768) ![0, 0, 3, 0] S1x1x1x768.size inb_S1x1x6x768_S1x1x1x768_0_0_3_0
abbrev rO4 : Rect S1x1x6x768 := Rect.unit (s := S1x1x6x768) ![0, 0, 4, 0] S1x1x1x768.size inb_S1x1x6x768_S1x1x1x768_0_0_4_0
abbrev rO5 : Rect S1x1x6x768 := Rect.unit (s := S1x1x6x768) ![0, 0, 5, 0] S1x1x1x768.size inb_S1x1x6x768_S1x1x1x768_0_0_5_0
abbrev rOz : Rect S1x1x6x768 := Rect.unit (s := S1x1x6x768) ![0, 0, 0, 0] S1x1x3x768.size inb_S1x1x6x768_S1x1x3x768_0_0_0_0

/-! ## What the body leaves in the output window's buffer -/

/-- The first condition, as the body computes it: the mask's count is positive. -/
def condPos (x1 : Vec F S1x1024x1 .f32) : Prop :=
  Scalar.cmpi .ne (Scalar.extui (Scalar.cmpf .ogt (k1_pay2 (View.ld x1 rW)) (Scalar.ofBits .f32 0x00000000#32)) : BitVec 32) 0#32 = 1#1
/-- The second condition: the mask's count is at most zero. -/
def condEmp (x1 : Vec F S1x1024x1 .f32) : Prop :=
  Scalar.cmpi .ne (Scalar.extui (Scalar.cmpf .ole (k1_pay2 (View.ld x1 rW)) (Scalar.ofBits .f32 0x00000000#32)) : BitVec 32) 0#32 = 1#1

/-- The six rows of statistics of a mask with points, last row first. -/
def outD (x0 : Vec F S1x1x1024x768 .f32) (x1 : Vec F S1x1024x1 .f32) : Vec F S1x1x6x768 .f32 :=
  View.canon [⟨rO5, k1_pay7 (k1_pay16 (k1_pay1 (View.ld x1 rW)) (View.ld x0 rX))⟩,
    ⟨rO4, k1_pay6 (k1_pay18 (k1_pay1 (View.ld x1 rW)) (Scalar.ofBits .f32 0x7F800000#32) (View.ld x0 rX))⟩,
    ⟨rO3, k1_pay5 (k1_pay17 (k1_pay1 (View.ld x1 rW)) (Scalar.ofBits .f32 0xFF800000#32) (View.ld x0 rX))⟩,
    ⟨rO2, k1_pay4 (k1_pay20 (k1_pay1 (View.ld x1 rW)) (k1_pay2 (View.ld x1 rW)) (View.ld x0 rX))⟩,
    ⟨rO1, k1_pay3 (k1_pay19 (k1_pay1 (View.ld x1 rW)) (k1_pay2 (View.ld x1 rW)) (View.ld x0 rX))⟩,
    ⟨rO0, k1_pay21 (k1_pay1 (View.ld x1 rW)) (k1_pay2 (View.ld x1 rW)) (View.ld x0 rX)⟩]

/-- The six rows of an empty mask, last row first. -/
def outE : Vec F S1x1x6x768 .f32 :=
  View.canon [⟨rO5, k1_pay11⟩, ⟨rO4, k1_pay10⟩, ⟨rO3, k1_pay9⟩, ⟨rOz, k1_pay8⟩]

/-- What the output window's buffer holds after the body: a later store wins, so the empty mask's rows wherever the
    second condition held, else the statistics wherever the first did (nothing is said where neither did). -/
def Left (x0 : Vec F S1x1x1024x768 .f32) (x1 : Vec F S1x1024x1 .f32) (X : Vec F S1x1x6x768 .f32) : Prop :=
  (condEmp x1 → X = outE) ∧ (¬ condEmp x1 → condPos x1 → X = outD x0 x1)

theorem coverD (p0 p1 p2 p3 p4 p5 : Vec F S1x1x1x768 .f32) (y : S1x1x6x768.Idx) :
    ∃ pc ∈ ([⟨rO5, p0⟩, ⟨rO4, p1⟩, ⟨rO3, p2⟩, ⟨rO2, p3⟩, ⟨rO1, p4⟩, ⟨rO0, p5⟩] : List (View.Piece (Elt F) S1x1x6x768 .f32)), y ∈ pc.1.set :=
  View.cover_of_tiled [⟨rO5, p0⟩, ⟨rO4, p1⟩, ⟨rO3, p2⟩, ⟨rO2, p3⟩, ⟨rO1, p4⟩, ⟨rO0, p5⟩] S1x1x1x768.size (by rfl) y

theorem coverE (p0 p1 p2 : Vec F S1x1x1x768 .f32) (p3 : Vec F S1x1x3x768 .f32) (y : S1x1x6x768.Idx) :
    ∃ pc ∈ ([⟨rO5, p0⟩, ⟨rO4, p1⟩, ⟨rO3, p2⟩, ⟨rOz, p3⟩] : List (View.Piece (Elt F) S1x1x6x768 .f32)), y ∈ pc.1.set := by
  have e0 : (y 0).val < 1 := (y 0).isLt
  have e1 : (y 1).val < 1 := (y 1).isLt
  have e2 : (y 2).val < 6 := (y 2).isLt
  have e3 : (y 3).val < 768 := (y 3).isLt
  have key : ∀ (o : Nat) (k : Nat) (inb), o ≤ (y 2).val → (y 2).val < o + k →
      y ∈ (Rect.unit (s := S1x1x6x768) ![0, 0, o, 0] ![1, 1, k, 768] inb).set := by
    intro o k inb h1 h2
    refine Rect.mem_set_unit.mpr fun a => ?_
    fin_cases a <;> simp <;> omega
  by_cases h : (y 2).val < 3
  · exact ⟨⟨rOz, p3⟩, by simp, key 0 3 inb_S1x1x6x768_S1x1x3x768_0_0_0_0 (by omega) (by omega)⟩
  by_cases h : (y 2).val < 4
  · exact ⟨⟨rO3, p2⟩, by simp, key 3 1 inb_S1x1x6x768_S1x1x1x768_0_0_3_0 (by omega) (by omega)⟩
  by_cases h : (y 2).val < 5
  · exact ⟨⟨rO4, p1⟩, by simp, key 4 1 inb_S1x1x6x768_S1x1x1x768_0_0_4_0 (by omega) (by omega)⟩
  · exact ⟨⟨rO5, p0⟩, by simp, key 5 1 inb_S1x1x6x768_S1x1x1x768_0_0_5_0 (by omega) (by omega)⟩

/-- Whatever was stored before, the empty mask's four stores leave its rows. -/
theorem left_emp (v : View sig .tc .vmem S1x1x6x768 .f32) (f : v.ty.Contents (Elt F)) (L : List (View.Piece (Elt F) S1x1x6x768 .f32)) :
    v.read (Elt F) (v.writes (Elt F) f (⟨rO5, k1_pay11⟩ :: ⟨rO4, k1_pay10⟩ :: ⟨rO3, k1_pay9⟩ :: ⟨rOz, k1_pay8⟩ :: L)) = outE :=
  calc _ = v.read (Elt F) (v.writes (Elt F) (v.writes (Elt F) f L) [⟨rO5, k1_pay11⟩, ⟨rO4, k1_pay10⟩, ⟨rO3, k1_pay9⟩, ⟨rOz, k1_pay8⟩]) := by
        simp only [View.writes_cons, View.writes_nil]
    _ = outE := View.read_writes_eq_canon _ _ _ (coverE _ _ _ _)

/-! ## The body's triple -/

set_option maxHeartbeats 300000 in
/-- The kernel body on whole staging memrefs runs to the continuation holding the inputs as they were and the output
    at contents meeting `Left`: both conditions are split on, and each of the four runs is a straight line. -/
theorem sound_kernel1 (c : Dev nD) (E : Set ℕ) (i : grid1.Coords) (arg2 : Memref sig .tc .smem S16 .i32) (harg2 : arg2.IsWhole) (arg3 : Memref sig .tc .vmem S1x1x1024x768 .f32) (harg3 : arg3.IsWhole) (arg4 : Memref sig .tc .vmem S1x1024x1 .f32) (harg4 : arg4.IsWhole) (arg5 : Memref sig .tc .vmem S1x1x6x768 .f32) (harg5 : arg5.IsWhole)
    (x0 : Vec F S1x1x1024x768 .f32) (x1 : Vec F S1x1024x1 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ (∃ X, ⌜Left x0 x1 X⌝ ∗ owns (c : Thread nD τ) arg5 fullShare X)) -∗ K ⟨⟩))
      ⊢ wp frame (wpE (defs₀ (F := F)) Variants.none c none) E (cc1__stats_kernel i arg2 harg2 arg3 harg3 arg4 harg4 arg5 harg5) K := by
  simp only [cc1__stats_kernel_eq_skeleton]; unfold cc1__stats_kernel_skel
  simp only [k1_part1_eq_skeleton]
  unfold owns
  iintro ⟨⟨%f0, %hf0, H0⟩, ⟨%f1, %hf1, H1⟩, ⟨%d2, %f2, -, H2⟩, Hk⟩
  subst hf0 hf1
  by_cases h1 : condPos (arg4.view.read (Elt F) f1) <;> by_cases h2 : condEmp (arg4.view.read (Elt F) f1)
  all_goals
    have h1' := h1
    have h2' := h2
    unfold condPos at h1'
    unfold condEmp at h2'
    sl_exec
    sl_step
    iapply Hk
    isplitl [H0]
    · iexists f0; isplitr; · ipureintro; rfl
      iexact H0
    isplitl [H1]
    · iexists f1; isplitr; · ipureintro; rfl
      iexact H1
  · iexists _; isplitr
    swap
    · iexists _; isplitr
      swap; · iexact H2
      ipureintro; rfl
    ipureintro
    refine ⟨fun _ => ?_, fun h => absurd h2 h⟩
    exact left_emp _ _ _
  · iexists _; isplitr
    swap
    · iexists _; isplitr
      swap; · iexact H2
      ipureintro; rfl
    ipureintro
    refine ⟨fun h => absurd h h2, fun _ _ => ?_⟩
    exact (View.read_writes_eq_canon _ _ _ (coverD _ _ _ _ _ _)).trans (by rfl)
  · iexists _; isplitr
    swap
    · iexists _; isplitr
      swap; · iexact H2
      ipureintro; rfl
    ipureintro
    refine ⟨fun _ => ?_, fun h => absurd h2 h⟩
    exact left_emp _ _ _
  · iexists _; isplitr
    swap
    · iexists _; isplitr
      swap; · iexact H2
      ipureintro; rfl
    ipureintro
    exact ⟨fun h => absurd h h2, fun _ h => absurd h h1⟩

/-! ## The pipeline's proof data -/

/-- The proof data of the statistics pipeline on core `c`: the arrays as the call finds them (`V`); each input's buffer
    left at its block; the invariant keeps the scoped rest, the generator register and the table, all untouched. What
    the output window is left at is said by `rel1` instead of exactly. -/
def dat1 (c : Dev nD) : Dat τ (Elt F) Unit ℕ (UR sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => outD (iblk1 V a1 c 0 t) (iblk1 V a1 c 1 t)
  Φ _ := iprop(Pipeline.ΦA spec1 c ∗ Pipeline.prefHeld pre1 c (fun _ => fullShare) a1.1)
  q _ := fullShare
  owed _ := 0

/-- The output window is the one held to a predicate. -/
def fgt1 : Fin 3 → Bool := fun w => match w with | 2 => true | _ => false

/-- What the output window is left at, point by point. -/
def rel1 (c : Dev nD) : (w : Fin (cfg1 a1).W) → Fin (cfg1 a1).N → (((cfg1 a1).win w).block.Idx → Elt F ((cfg1 a1).win w).elt) → Prop :=
  fun w t => match w with
    | ⟨0, _⟩ => fun _ => True
    | ⟨1, _⟩ => fun _ => True
    | ⟨2, _⟩ => fun X => Left (iblk1 V a1 c 0 t) (iblk1 V a1 c 1 t) X

theorem A_eq1 (c : Dev nD) (w : Fin (cfg1 a1).W) : (dat1 V a1 c).A w = V c (Pipeline.arrRef spec1 w) := by
  dsimp only [dat1]

theorem after1_0 (c : Dev nD) (t : Fin (cfg1 a1).N) : (dat1 V a1 c).after 0 t = iblk1 V a1 c 0 t := rfl
theorem after1_1 (c : Dev nD) (t : Fin (cfg1 a1).N) : (dat1 V a1 c).after 1 t = iblk1 V a1 c 1 t := rfl

theorem before1_0 (c : Dev nD) (t : Fin (cfg1 a1).N) (d) : (dat1 V a1 c).before 0 t d = iblk1 V a1 c 0 t :=
  before1_0_of V a1 (dat1 V a1 c) (A_eq1 V a1 c 0) (after1_0 V a1 c) t d
theorem before1_1 (c : Dev nD) (t : Fin (cfg1 a1).N) (d) : (dat1 V a1 c).before 1 t d = iblk1 V a1 c 1 t :=
  before1_1_of V a1 (dat1 V a1 c) (A_eq1 V a1 c 1) (after1_1 V a1 c) t d

/-! ## The body obligation, at a generic point -/

/-- The current staging memref of each window at point `t`. -/
abbrev st1_0 (t : Fin (cfg1 a1).N) := ((cfg1 a1).win 0).stage ((cfg1 a1).slots t 0)
abbrev st1_1 (t : Fin (cfg1 a1).N) := ((cfg1 a1).win 1).stage ((cfg1 a1).slots t 1)
abbrev st1_2 (t : Fin (cfg1 a1).N) := ((cfg1 a1).win 2).stage ((cfg1 a1).slots t 2)

/-- The kernel body at point `t`, on what the pipeline calls it with. -/
abbrev bodyAt1 (t : Fin (cfg1 a1).N) : Prog (TpuEff nD τ sig (Elt F) Λ₀ .tc) PUnit :=
  cc1__stats_kernel (grid1.coords t) (Memref.whole main_v51) (Memref.isWhole_whole _)
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))

/-- What the body is called with at point `t`, -/
def bodyPre1 (c : Dev nD) (t : Fin (cfg1 a1).N) : sProp 𝕄 :=
  iprop((dat1 V a1 c).Φ t.castSucc ∗ (dat1 V a1 c).owesAt () t.castSucc
    ∗ (∃ d, owns (c : Thread nD τ) (st1_0 a1 t) fullShare ((dat1 V a1 c).before 0 t d))
    ∗ (∃ d, owns (c : Thread nD τ) (st1_1 a1 t) fullShare ((dat1 V a1 c).before 1 t d))
    ∗ (∃ Y, ⌜((dat1 V a1 c).toRRel fgt1 (rel1 V a1 c)).Finds 2 t Y⌝ ∗ owns (c : Thread nD τ) (st1_2 a1 t) fullShare Y))

/-- and what it returns. -/
def bodyPost1 (c : Dev nD) (t : Fin (cfg1 a1).N) : sProp 𝕄 :=
  iprop((dat1 V a1 c).Φ t.succ ∗ (dat1 V a1 c).owesAt () t.succ
    ∗ owns (c : Thread nD τ) (st1_0 a1 t) fullShare ((dat1 V a1 c).after 0 t)
    ∗ owns (c : Thread nD τ) (st1_1 a1 t) fullShare ((dat1 V a1 c).after 1 t)
    ∗ (∃ X, ⌜Left (iblk1 V a1 c 0 t) (iblk1 V a1 c 1 t) X⌝ ∗ owns (c : Thread nD τ) (st1_2 a1 t) fullShare X))

theorem sound_body1 (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1 bodyAt1
  simp only [before1_0, before1_1]
  rw [show (dat1 V a1 c).Φ t.succ = (dat1 V a1 c).Φ t.castSucc from rfl,
    show (dat1 V a1 c).owesAt () t.succ = (dat1 V a1 c).owesAt () t.castSucc from rfl,
    after1_0, after1_1]
  iintro ⟨HΦ, Ho, ⟨%d0, H0⟩, ⟨%d1, H1⟩, ⟨%d2, -, H2⟩⟩
  iapply (sound_kernel1 c Set.univ (grid1.coords t) _ _ _ _ _ _ _ _ (iblk1 V a1 c 0 t) (iblk1 V a1 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin (cfg1 a1).N) :
    defs₀ (F := F) .tc (cfg1 a1).body ((cfg1 a1).bodyArgs t ((cfg1 a1).slots t)) = bodyAt1 a1 t := by
  unfold defs₀; rw [Defs.onTc_tc]

/-- The library's body obligation, the output window held to `rel1`. -/
theorem body_obligation1 (c : Dev nD) :
    Pipeline.BodyObligationRel (dat1 (F := F) V a1 c) (defs₀ (F := F)) Variants.none () Set.univ fgt1 (rel1 V a1 c) := fun t => by
  rw [defs₀_row1]
  refine BIBase.Entails.trans (sep_mono .rfl (sep_mono .rfl (Entails.of_eq (bigSep_W1 (M := 𝕄) _)))) ?_
  refine BIBase.Entails.trans (sound_body1 V a1 c t) (wp_mono _ _ _ fun _ => ?_)
  refine sep_mono .rfl (sep_mono .rfl ?_)
  refine BIBase.Entails.trans ?_ (Entails.of_eq (bigSep_W1 (M := 𝕄) _).symm)
  exact .rfl

end Cert.KernelIdeal.Runs

end
-- ==== Proof.TableI.lean ====
module

public import proofs.«01_k».proof.Proof.MaskI
public import proofs.«01_k».proof.Proof.StatsI
public import proofs.«01_k».proof.Proof.Gen.KernelIdeal.Regions

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The table the second call prefetches

The host computes it between the two calls: image `n`'s entry is `n` where the mask has a positive total and zero where it
has not. Every entry is below sixteen, so every block it selects lies inside the feature maps. -/

variable (m : (ℓ : Loc nD τ sig) → Buf (Elt F) ℓ)

/-- The buffers as the first call finds them. -/
abbrev in0 : (c : Dev nD) → (b : Ref sig .tc) → Buf (Elt F) ((c : Thread nD τ).loc b) := fun c b => V7 m c b

/-- What the first call leaves in its arrays. -/
def outs0 : Outs (F := F) := fun _ r c =>
  Pipeline.withArrays spec0 c (V7 m c) (fun w => (dat0 (in0 m) c).arrAt w cfg0.N) (Proc.devRef .tc r)

/-- The buffers as the second call finds them. -/
abbrev in1 : (c : Dev nD) → (b : Ref sig .tc) → Buf (Elt F) ((c : Thread nD τ).loc b) := fun c b => V11 m (outs0 m) c b

theorem V10_v51 (outs : Outs (F := F)) (c : Dev nD) :
    (V10 m outs c main_v51 : S16.Idx → BitVec 32)
      = select (V9 m outs c main_v49 : S16.Idx → BitVec 1) (V9 m outs c main_v50 : S16.Idx → BitVec 32) (broadcastInDim S16 ![] bcast_S_S16 (V9 m outs c main_c_16 : S_.Idx → BitVec 32)) := by
  show StableHlo.after hostOps1_1 (V9 m outs c) main_v51 = _
  generalize V9 m outs c = W
  after_results
  rfl

theorem V9_v49 (outs : Outs (F := F)) (c : Dev nD) :
    (V9 m outs c main_v49 : S16.Idx → BitVec 1)
      = cmpf .ogt (Host.reduceAdd (shapeCast S16x1024x1 (V8 m outs c main_v45 : Vec F S16x32x32 .f32) shapeCasts_S16x32x32_S16x1024x1) (constant S_ .f32 0x00000000#32) reducesTo_S16x1024x1_S16_d1_2 h_S_)
          (broadcastInDim S16 ![] bcast_S_S16 (constant S_ .f32 0x00000000#32)) := by
  show StableHlo.after hostOps1 (V8 m outs c) main_v49 = _
  generalize V8 m outs c = W
  after_results
  rfl

theorem V9_v46 (outs : Outs (F := F)) (c : Dev nD) :
    (V9 m outs c main_v46 : Vec F S16x1024x1 .f32)
      = shapeCast S16x1024x1 (V8 m outs c main_v45 : Vec F S16x32x32 .f32) shapeCasts_S16x32x32_S16x1024x1 := by
  show StableHlo.after hostOps1 (V8 m outs c) main_v46 = _
  generalize V8 m outs c = W
  after_results
  rfl

theorem V9_v50 (outs : Outs (F := F)) (c : Dev nD) :
    (V9 m outs c main_v50 : S16.Idx → BitVec 32) = iotaInDim S16 32 0 := by
  show StableHlo.after hostOps1 (V8 m outs c) main_v50 = _
  generalize V8 m outs c = W
  after_results

theorem V9_c16 (outs : Outs (F := F)) (c : Dev nD) :
    (V9 m outs c main_c_16 : S_.Idx → BitVec 32) = constantI S_ 32 0#32 := by
  show StableHlo.after hostOps1 (V8 m outs c) main_c_16 = _
  generalize V8 m outs c = W
  after_results

/-- Whether each image's mask has a positive total. -/
def posBit (outs : Outs (F := F)) (c : Dev nD) : S16.Idx → BitVec 1 := V9 m outs c main_v49

/-- The table entry by entry. -/
theorem tbl_eq (outs : Outs (F := F)) (c : Dev nD) (y : S16.Idx) :
    (V11 m outs c main_v51 : S16.Idx → BitVec 32) y
      = if posBit m outs c y = 1#1 then BitVec.ofNat 32 (y 0).val else 0#32 := by
  rw [show V11 m outs c main_v51 = V10 m outs c main_v51 from V11_of m outs c main_v51 (by decide)]
  refine (congrFun (V10_v51 m outs c) y).trans ?_
  rw [V9_v50, V9_c16]
  show Scalar.select (posBit m outs c y) _ _ = _
  generalize posBit m outs c = M
  show Scalar.select (M y) _ _ = _
  unfold Scalar.select
  by_cases h : M y = 1#1
  · rw [if_pos h]
    simp [h]
    rfl
  · rw [if_neg h]
    have h0 : M y = 0#1 := by
      revert h; generalize M y = b; revert b; decide
    simp [h0]
    rfl

theorem tbl_lt (outs : Outs (F := F)) (c : Dev nD) (y : S16.Idx) :
    ((V11 m outs c main_v51 : S16.Idx → BitVec 32) y).toNat < 16 := by
  rw [tbl_eq]
  have hy : (y 0).val < 16 := (y 0).isLt
  split
  · rw [BitVec.toNat_ofNat]; exact lt_of_le_of_lt (Nat.mod_le _ _) hy
  · decide

/-- The table's contents when the second call is entered. -/
def tbl : pre1.Contents (Elt F) := fun k => V11 m (outs0 m) (0 : Dev nD) (pre1.ref k)

theorem tbl_ok : ok1 (F := F) (tbl m) := by
  intro i
  refine ⟨?_, Or.inl rfl⟩
  have ht : ∀ y : S16.Idx, ((tbl m 0 : S16.Idx → BitVec 32) y).toNat < 16 := fun y => tbl_lt m (outs0 m) 0 y
  have h0 : (i 0).val < 2 := (i 0).isLt
  intro a
  fin_cases a
  · show ((BitVec.ofNat 32 (i 0).val).toNat + 1) * 1 ≤ 2
    rw [BitVec.toNat_ofNat]
    have := Nat.mod_le (i 0).val (2 ^ 32)
    omega
  · have := ht ((Rect.unit (s := S16) ![(Scalar.indexCast (BitVec.ofNat 32 (i 1).val) : Index).toNat] S1.size (k1_off1_inb i)).emb (Shape.Idx.first (numel1_S1.symm ▸ Nat.one_pos)))
    show (BitVec.toNat _ + 1) * 1 ≤ 16
    refine le_trans (Nat.mul_le_of_le_div _ _ _ ?_) (Nat.le_refl 16)
    rw [Nat.div_one]
    exact this
  · show ((0#32).toNat + 1) * 1024 ≤ 1024
    decide
  · show ((0#32).toNat + 1) * 768 ≤ 768
    decide

/-- The tables the two calls run at: the first has none. -/
def adm : (p : Fin 2) → (pcfgs (F := F) p).Adm
  | ⟨0, _⟩ => cfg0.toPCfg_adm
  | ⟨1, _⟩ => ⟨tbl m, tbl_ok m⟩

end Cert.KernelIdeal.Runs

end
-- ==== Proof.RunI.lean ====
module

public import proofs.«01_k».proof.Proof.TableI
public import Idealize.ShloMosaic.Lib.Pipeline.RegionsOwned
public import Idealize.ShloMosaic.Lib.Pipeline.ArrRel

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the two calls -/

/-- Each call's data at the contents it is entered with. -/
def pdats : (p : Fin 2) → (c : Dev nD) → Dat τ (Elt F) Unit ℕ (UR sig nD τ) ℕ (Pipeline.pin (pcfgs (F := F)) (adm m) p) c
  | ⟨0, _⟩ => fun c => dat0 (in0 m) c
  | ⟨1, _⟩ => fun c => dat1 (in1 m) (adm m 1) c

/-- The same with the second call's result held to what its body promises of each block. -/
def rdats : (p : Fin 2) → (c : Dev nD) → RDat τ (Elt F) Unit ℕ (UR sig nD τ) ℕ (Pipeline.pin (pcfgs (F := F)) (adm m) p) c
  | ⟨0, _⟩ => fun c => (dat0 (in0 m) c).toR
  | ⟨1, _⟩ => fun c => (dat1 (in1 m) (adm m 1) c).toRRel fgt1 (rel1 (in1 m) (adm m 1) c)

abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first call -/

theorem in_v45 (c : Dev nD) : V8 m (outs0 m) c main_v45 = (dat0 (in0 m) c).arrAt 2 cfg0.N :=
  (Function.update_self ..).trans (Pipeline.withArrays_arr spec0 (launch0 (F := F)).win.arr_inj c _ _ 2)

theorem hF0 (c : Dev nD) (w : Fin cfg0.W) : (dat0 (in0 m) c).arrAt w cfg0.N = V8 m (outs0 m) c (Pipeline.arrRef spec0 w) := by
  fin_cases w
  · exact ((dat0 (in0 m) c).arrAt_in 0 rfl _).trans ((A_eq0 (in0 m) c 0).trans (V8_of m (outs0 m) c _ (by decide)).symm)
  · exact ((dat0 (in0 m) c).arrAt_in 1 rfl _).trans ((A_eq0 (in0 m) c 1).trans (V8_of m (outs0 m) c _ (by decide)).symm)
  · exact (in_v45 m c).symm

theorem hrest0 (c : Dev nD) (b : Ref sig .tc) (hb : b ∉ Finset.univ.image (Pipeline.arrRef spec0)) :
    V8 m (outs0 m) c b = V7 m c b := by
  refine V8_of m (outs0 m) c b fun h => hb ?_
  rw [List.mem_singleton] at h
  subst h
  exact Finset.mem_image.mpr ⟨2, Finset.mem_univ _, rfl⟩

set_option backward.isDefEq.respectTransparency.types false in
/-- The first call over the thread state. -/
def reg0 : Pipeline.RDat.RegionSeg (pcfgs (F := F)) (adm m) (rdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (in0 m) c).toR
  hwaits := Pipeline.RDat.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs0 m) c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.RDat.arrays_of_unscopedBufs (p := 0) (pcfgs (F := F)) (adm m) (rdats m) (launch0 (F := F)).win (launch0 (F := F)).arr_whole c
      ((pdats m 0 c).share_full fun _ => rfl) (in0 m c) (A_eq0 (in0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (in0 m c) (fun b => V8 m (outs0 m) c b) ((pdats m 0 c).arrAt · cfg0.N) (hF0 m c) (hrest0 m c)
    rw [Pipeline.unscopedBufs_held] at hjoin
    have hpost : (rdats m 0 c).arraysAt (Pipeline.pin (pcfgs (F := F)) (adm m) 0).N ⊢ ((pdats m 0 c).arrays ((pdats m 0 c).arrAt · cfg0.N) : sProp 𝕄) :=
      (dat0 (in0 m) c).toR_arraysAt_post cfg0.N
    iintro ⟨Ha, HO, HY, Hrest⟩
    ihave Hb := hpost $$ Ha
    imodintro
    isplitl [Hb Hrest]
    · iapply hjoin; isplitl [Hb] <;> iassumption
    isplitl [HY]; · iexact HY
    unfold Pipeline.RDat.owesAt Pipeline.owesWithin
    icases HO with ⟨%W, -, HO⟩; iexists W; iexact HO

/-! ## The second call -/

/-- What the second call may leave in its result array. -/
abbrev Res (c : Dev nD) : Type :=
  {X : Buf (Elt F) ((c : Thread nD τ).loc main_v54) // (rdats m 1 c).ArrAt 2 (cfg1 (adm m 1)).N X}

/-- The buffers after the second call. -/
abbrev V12X (c : Dev nD) (γ : Res m c) : Valuation τ sig (Elt F) := Function.update (V11 m (outs0 m) c) main_v54 γ.1

theorem V12X_of (c : Dev nD) (γ : Res m c) (r : Ref sig .tc) (h : r ≠ main_v54) : V12X m c γ r = V11 m (outs0 m) c r :=
  Function.update_of_ne (StableHlo.devRef_ne_of_ne h : (Proc.devRef .tc r : DevRef τ sig) ≠ Proc.devRef .tc main_v54) _ _

theorem hrest1 (c : Dev nD) (γ : Res m c) (b : Ref sig .tc) (hb : b ∉ Finset.univ.image (Pipeline.arrRef spec1)) :
    V12X m c γ b = V11 m (outs0 m) c b := by
  refine V12X_of m c γ b fun h => hb ?_
  subst h
  exact Finset.mem_image.mpr ⟨2, Finset.mem_univ _, rfl⟩

theorem in1_tbl (c : Dev nD) : (fun k => in1 m c (pre1.ref k)) = tbl m := by
  obtain rfl : c = 0 := Subsingleton.elim _ _
  rfl

section Exit

variable (V : (c : Dev nD) → (b : Ref sig .tc) → Buf (Elt F) ((c : Thread nD τ).loc b)) (a1 : (pcfg1 (F := F)).Adm)

/-- The second call's data, its result held to what the body promises. -/
abbrev rd1 (c : Dev nD) : RDat τ (Elt F) Unit ℕ (UR sig nD τ) ℕ (cfg1 a1) c := (dat1 V a1 c).toRRel fgt1 (rel1 V a1 c)

theorem arrAt1_0 (c : Dev nD) (n : ℕ) (G) (h : (rd1 V a1 c).ArrAt 0 n G) : G = V c (Pipeline.arrRef spec1 0) := by
  have e : (rd1 V a1 c).ArrAt 0 n = fun F => F = (rd1 V a1 c).A 0 := (rd1 V a1 c).ArrAt_in 0 rfl n
  exact (show G = (dat1 V a1 c).A 0 from (congrFun e G).mp h).trans (A_eq1 V a1 c 0)
theorem arrAt1_1 (c : Dev nD) (n : ℕ) (G) (h : (rd1 V a1 c).ArrAt 1 n G) : G = V c (Pipeline.arrRef spec1 1) := by
  have e : (rd1 V a1 c).ArrAt 1 n = fun F => F = (rd1 V a1 c).A 1 := (rd1 V a1 c).ArrAt_in 1 rfl n
  exact (show G = (dat1 V a1 c).A 1 from (congrFun e G).mp h).trans (A_eq1 V a1 c 1)

/-- The second call's arrays at its end: the inputs as it found them, the result at some contents it may hold. -/
theorem exitArr (c : Dev nD) (n : ℕ) (W : Buf (Elt F) ((c : Thread nD τ).loc main_v54) → (b : Ref sig .tc) → Buf (Elt F) ((c : Thread nD τ).loc b))
    (h0 : ∀ X, W X (Pipeline.arrRef spec1 0) = V c (Pipeline.arrRef spec1 0)) (h1 : ∀ X, W X (Pipeline.arrRef spec1 1) = V c (Pipeline.arrRef spec1 1))
    (h2 : ∀ X, W X (Pipeline.arrRef spec1 2) = X) :
    (rd1 V a1 c).arraysAt n ⊢ (iprop(∃ X, ⌜(rd1 V a1 c).ArrAt 2 n X⌝ ∗ (dat1 V a1 c).arrays fun w => W X (Pipeline.arrRef spec1 w)) : sProp 𝕄) := by
  unfold Pipeline.RDat.arraysAt Pipeline.Dat.arrays
  refine BIBase.Entails.trans (BIBase.Entails.of_eq (bigSep_W1 (M := 𝕄) _)) ?_
  iintro ⟨⟨%G0, %hG0, H0⟩, ⟨%G1, %hG1, H1⟩, ⟨%G2, %hG2, H2⟩⟩
  have e0 := (arrAt1_0 V a1 c n G0 hG0).trans (h0 G2).symm
  have e1 := (arrAt1_1 V a1 c n G1 hG1).trans (h1 G2).symm
  iexists G2
  isplitr; · ipureintro; exact hG2
  iapply (BIBase.Entails.of_eq (bigSep_W1 (M := 𝕄) _).symm)
  subst e0; subst e1
  rw [show (fun w => W G2 (Pipeline.arrRef spec1 w)) 2 = G2 from h2 G2]
  isplitl [H0]; · iexact H0
  isplitl [H1]; · iexact H1
  iexact H2

end Exit

set_option backward.isDefEq.respectTransparency.types false in
/-- The second call over the thread state. -/
def reg1 : Pipeline.RDat.RegionSeg (pcfgs (F := F)) (adm m) (rdats m) () defs₀ 𝒱₀ L lv 1 where
  win := winFacts1.to₀
  block_pos := (launch1 (F := F)).block_pos
  stage_whole := (launch1 (F := F)).stage_whole
  K := PEmpty
  osem k := k.elim
  ho := Pipeline.OwnSemFacts.none _
  hbody c := (body_obligation1 (in1 m) (adm m 1) c).toRRel
  hwaits := Pipeline.RDat.hwaits_of_owed_zero _ _ _ _ L lv 1 fun _ _ => rfl
  pre c := iprop(StableHlo.held (c : Thread nD τ) (Pipeline.ucRefs τ sig) (V11 m (outs0 m) c) ∗ R c)
  post c := iprop((∃ γ : Res m c, StableHlo.held (c : Thread nD τ) (Pipeline.ucRefs τ sig) (V12X m c γ)) ∗ R c)
  X c := iprop(∃ r, prngReg c r)
  Y c := iprop((∃ r, prngReg c r) ∗ Pipeline.prefHeld pre1 c (fun _ => fullShare) (tbl m))
  Z c := Pipeline.unscopedRestP (Ix := Unit) (Name := ℕ) (U := UR sig nD τ) (Lvl := ℕ) pre1 spec1 c (in1 m c)
  hentry c := by
    rw [Pipeline.ownSems0_none]
    have hsplit := Pipeline.RDat.arrays_of_unscopedBufs (p := 1) (pcfgs (F := F)) (adm m) (rdats m) winFacts1 arr_whole1 c
      ((pdats m 1 c).share_full fun _ => rfl) (in1 m c) (A_eq1 (in1 m) (adm m 1) c)
    rw [Pipeline.unscopedBufs_held] at hsplit
    have hs2 := Pipeline.unscopedRest_split (Ix := Unit) (Name := ℕ) (U := UR sig nD τ) (Lvl := ℕ) preFacts1 c (in1 m c)
    rw [in1_tbl] at hs2
    iintro ⟨⟨Hub, Hp, HO⟩, -, -⟩
    ihave H := hsplit $$ Hub
    icases H with ⟨Ha, Hrest⟩
    ihave Hr2 := (BIBase.Entails.of_eq hs2) $$ Hrest
    icases Hr2 with ⟨Ht, Hrest⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = iprop(Pipeline.ΦA spec1 c ∗ Pipeline.prefHeld pre1 c (fun _ => fullShare) (tbl m)) from rfl]; unfold Pipeline.ΦA
    iintro ⟨Hp, Ht, Hr⟩
    isplitl [Hp Hr]
    · isplitl [Hr]; · iexact Hr
      iexact Hp
    iexact Ht
  hout c := by
    rw [Pipeline.ownSems0_none, show (rdats m 1 c).Φ (Fin.last _) = iprop(Pipeline.ΦA spec1 c ∗ Pipeline.prefHeld pre1 c (fun _ => fullShare) (tbl m)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := fun γ : Res m c => Pipeline.unscopedBufs_of_arrays (p := 1) (pcfgs (F := F)) (adm m) (Ix := Unit) (Name := ℕ) (U := UR sig nD τ) (Lvl := ℕ)
      winFacts1 arr_whole1 c (pdats m) ((pdats m 1 c).share_full fun _ => rfl)
      (in1 m c) (fun b => V12X m c γ b) (fun w => V12X m c γ (Pipeline.arrRef spec1 w)) (fun _ => rfl) (hrest1 m c γ)
    have hs2 := Pipeline.unscopedRest_split (Ix := Unit) (Name := ℕ) (U := UR sig nD τ) (Lvl := ℕ) preFacts1 c (in1 m c)
    rw [in1_tbl] at hs2
    have hexit : (rdats m 1 c).arraysAt (Pipeline.pin (pcfgs (F := F)) (adm m) 1).N ⊢ (iprop(∃ X, ⌜(rdats m 1 c).ArrAt 2 (cfg1 (adm m 1)).N X⌝
        ∗ (pdats m 1 c).arrays fun w => (Function.update (V11 m (outs0 m) c) main_v54 X : Valuation τ sig (Elt F)) (Pipeline.arrRef spec1 w)) : sProp 𝕄) :=
      exitArr (in1 m) (adm m 1) c (cfg1 (adm m 1)).N (fun X b => (Function.update (V11 m (outs0 m) c) main_v54 X : Valuation τ sig (Elt F)) b)
      (fun X => Function.update_of_ne (StableHlo.devRef_ne_of_ne (by decide : Pipeline.arrRef spec1 0 ≠ main_v54)) _ _)
      (fun X => Function.update_of_ne (StableHlo.devRef_ne_of_ne (by decide : Pipeline.arrRef spec1 1 ≠ main_v54)) _ _)
      (fun X => Function.update_self ..)
    iintro ⟨Ha, HO, ⟨Hp, Ht⟩, Hrest⟩
    ihave Hb := hexit $$ Ha
    icases Hb with ⟨%X, %hX, Hb⟩
    have hj := hjoin ⟨X, hX⟩
    rw [Pipeline.unscopedBufs_held, show Pipeline.unscopedRest (Pipeline.pin (pcfgs (F := F)) (adm m) 1).spec c (in1 m c) = _ from hs2] at hj
    imodintro
    isplitl [Hb Hrest Ht]
    · iexists (⟨X, hX⟩ : Res m c)
      iapply hj
      isplitl [Hb]; · iexact Hb
      isplitl [Ht]; · iexact Ht
      iexact Hrest
    isplitl [Hp]; · iexact Hp
    unfold Pipeline.RDat.owesAt Pipeline.owesWithin
    icases HO with ⟨%W, -, HO⟩; iexists W; iexact HO

/-! ## The whole run -/

abbrev E : Fin 3 → Dev nD → sProp 𝕄 := fun _ => R

/-- The last stretch of host operations, from whatever the second call left. -/
def segLast : Pipeline.HostSeg (Name := ℕ) (U := UR sig nD τ) (pcfgs (F := F)) defs₀ 𝒱₀ L lv :=
  Pipeline.HostSeg.ofOpsEx _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V12X m) R

/-- The program's items in order. -/
def segs : List (Pipeline.RDat.Seg (pcfgs (F := F)) (adm m) (rdats m) () defs₀ 𝒱₀ L lv) :=
  [ .host (seg0 (F := F) (Ix := Unit) (U := UR sig nD τ) (Lvl := ℕ) m 𝒱₀ L lv E), .host (seg1 (F := F) (Ix := Unit) (U := UR sig nD τ) (Lvl := ℕ) m 𝒱₀ L lv E), .host (seg2 (F := F) (Ix := Unit) (U := UR sig nD τ) (Lvl := ℕ) m 𝒱₀ L lv E), .host (seg3 (F := F) (Ix := Unit) (U := UR sig nD τ) (Lvl := ℕ) m 𝒱₀ L lv E),
    .host (seg4 (F := F) (Ix := Unit) (U := UR sig nD τ) (Lvl := ℕ) m 𝒱₀ L lv E), .host (seg5 (F := F) (Ix := Unit) (U := UR sig nD τ) (Lvl := ℕ) m 𝒱₀ L lv E), .host (seg6 (F := F) (Ix := Unit) (U := UR sig nD τ) (Lvl := ℕ) m 𝒱₀ L lv E), .region (reg0 m),
    .host (seg8 (F := F) (Ix := Unit) (U := UR sig nD τ) (Lvl := ℕ) m (outs0 m) 𝒱₀ L lv E), .host (seg9 (F := F) (Ix := Unit) (U := UR sig nD τ) (Lvl := ℕ) m (outs0 m) 𝒱₀ L lv E), .host (seg10 (F := F) (Ix := Unit) (U := UR sig nD τ) (Lvl := ℕ) m (outs0 m) 𝒱₀ L lv E),
    .region (reg1 m), .host (segLast m) ]

theorem main_run (c : Dev nD) : main (F := F) c = Pipeline.RDat.Seg.run (segs m) := (main_chain c).trans (by chain_rfl)

theorem V11_arg0 (c : Dev nD) : V11 m (outs0 m) c main_arg0 = m ((c : Thread nD τ).loc main_arg0) :=
  (V11_of m (outs0 m) c main_arg0 (by decide)).trans <| (V10_of m (outs0 m) c main_arg0 (by decide)).trans <| (V9_of m (outs0 m) c main_arg0 (by decide)).trans <| (V8_of m (outs0 m) c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| V1_of m c main_arg0 (by decide)
theorem V11_arg1 (c : Dev nD) : V11 m (outs0 m) c main_arg1 = m ((c : Thread nD τ).loc main_arg1) :=
  (V11_of m (outs0 m) c main_arg1 (by decide)).trans <| (V10_of m (outs0 m) c main_arg1 (by decide)).trans <| (V9_of m (outs0 m) c main_arg1 (by decide)).trans <| (V8_of m (outs0 m) c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| V1_of m c main_arg1 (by decide)

theorem V12X_args (c : Dev nD) (γ : Res m c) :
    StableHlo.after hostOps2 (V12X m c γ) main_arg0 = m ((c : Thread nD τ).loc main_arg0)
      ∧ StableHlo.after hostOps2 (V12X m c γ) main_arg1 = m ((c : Thread nD τ).loc main_arg1) := by
  refine ⟨(StableHlo.after_of_writes_sub hostOps2 _ hostOps2_writes (by decide)).trans ((V12X_of m c γ main_arg0 (by decide)).trans (V11_arg0 m c)),
    (StableHlo.after_of_writes_sub hostOps2 _ hostOps2_writes (by decide)).trans ((V12X_of m c γ main_arg1 (by decide)).trans (V11_arg1 m c))⟩

set_option backward.isDefEq.respectTransparency.types false in
/-- Every weakly fair run terminates with nothing faulting, the arguments as launched, every counter at zero, and the result
    read from one of the arrays the second call may leave. -/
theorem run : θ_run defs (onTc (τ := τ) (main (F := F))) ⟨m, fun _ => 0, ρ⟩ (fun r => (∀ c : Dev nD, ∃ γ : Res m c,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v55) = StableHlo.after hostOps2 (V12X m c γ) main_v55)
      ∧ r.2.sem = fun _ => 0) :=
  Pipeline.RDat.θ_run_regions_kit_sems (pcfgs (F := F)) (adm m) (rdats m) () (cellOf_inj (adm m)) emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop((∃ γ : Res m c, StableHlo.held (c : Thread nD τ) (Pipeline.ucRefs τ sig) (StableHlo.after hostOps2 (V12X m c γ))) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.RDat.Seg.post, segLast, Pipeline.HostSeg.ofOpsEx]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ γ : Res m c, ∀ b ∈ Pipeline.ucRefs τ sig, s.mem (((c : Thread nD τ)).1, b) = StableHlo.after hostOps2 (V12X m c γ) b)
    (hfin := fun c s' => by
      iintro ⟨⟨⟨%γ, Hh⟩, -⟩, HSI⟩
      unfold StableHlo.held
      have hr := pointsTo_read_all (Ix := Unit) (Name := ℕ) (U := UR sig nD τ) (Lvl := ℕ) (Pipeline.ucRefs τ sig) (fun b => (((c : Thread nD τ)).1, b)) (StableHlo.after hostOps2 (V12X m c γ)) s'
      ihave H := hr $$ [Hh HSI]
      · isplitl [Hh] <;> iassumption
      icases H with ⟨%h, HSI⟩
      imodintro
      isplitr; · ipureintro; exact ⟨γ, h⟩
      iexact HSI)
    (hQ := fun s h hz => ⟨(fun c => by
      obtain ⟨γ, hγ⟩ := h c
      exact ⟨γ, (hγ _ (mem_uc main_arg0 (by decide))).trans (V12X_args m c γ).1,
        (hγ _ (mem_uc main_arg1 (by decide))).trans (V12X_args m c γ).2, hγ _ (mem_uc main_v55 (by decide))⟩),
      funext fun g => hz g (.inr (regions_no_unscoped g.2))⟩)

/-- The arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => by obtain ⟨γ, h0, h1, -⟩ := h.1 c; exact ⟨h0, h1⟩, h.2⟩) (run m ρ)

end Cert.KernelIdeal.Runs

end
-- ==== Proof.Spec.lean ====
/- The statistics of one channel over one mask, as plain sums over the 1024 places of a feature map, and the facts that
   let a one-pass formula stand for them: the mask is zero or one at every place, and the features are finite. -/
module

public import Idealize.ShloMosaic.PureOps.Ideal
public import Idealize.ShloMosaic.PureOps.Ideal.Laws
public import Idealize.ShloMosaic.Lib.IdealHost

@[expose] public section

noncomputable section

namespace Cert.Spec

open Idealize.ShloMosaic
open scoped BigOperators

/-! ## The mask -/

/-- An image resized by the weights `A`, at one place: rows first, then columns. -/
def resized (A : Fin 512 → Fin 32 → EReal) (G : Fin 512 → Fin 512 → EReal) (i j : Fin 32) : EReal :=
  ∑ w : Fin 512, (∑ h : Fin 512, A h i * G h w) * A w j

/-- Whether a byte truncated from `r` is nonzero. -/
def bit (r : EReal) : EReal := if 1 ≤ r then 1 else 0

theorem bit_binary (r : EReal) : bit r = 0 ∨ bit r = 1 := by
  unfold bit; split <;> simp

/-- The byte of `r`, clamped to 0 … 255, is nonzero exactly where `r` is at least one. -/
theorem byte_pos (r : EReal) :
    IntOp.cmpi .sgt (IntOp.minsi 255#32 (IntOp.maxsi 0#32 (Ideal.fptosi 32 r))) 0#32 = if 1 ≤ r then 1#1 else 0#1 := by
  have key : ∀ b : BitVec 32, IntOp.cmpi .sgt (IntOp.minsi 255#32 (IntOp.maxsi 0#32 b)) 0#32 = if 0 < b.toInt then 1#1 else 0#1 := by
    intro b
    have hb : (0#32).slt b = decide (0 < b.toInt) := by simp [BitVec.slt]
    have hb' : b.slt 0#32 = decide (b.toInt < 0) := by simp [BitVec.slt]
    have e1 : IntOp.maxsi 0#32 b = if b.toInt < 0 then 0#32 else b := by unfold IntOp.maxsi; rw [hb']; simp
    rw [e1]
    by_cases hn : b.toInt < 0
    · rw [if_pos hn, if_neg (by omega)]; decide
    · rw [if_neg hn]
      unfold IntOp.minsi
      by_cases hg : (255#32).slt b = true
      · rw [if_pos hg, if_pos]
        · decide
        · simp [BitVec.slt] at hg; omega
      · rw [if_neg hg]
        show BitVec.ofBool ((0#32).slt b) = _
        rw [hb]
        by_cases h0 : 0 < b.toInt <;> simp [h0]
  rw [key]
  have hval : (Ideal.fptosi 32 r).toInt = Ideal.toIntClamped (-2147483648) 2147483647 r := by
    unfold Ideal.fptosi
    have hr : -2147483648 ≤ Ideal.toIntClamped (-2147483648) 2147483647 r ∧ Ideal.toIntClamped (-2147483648) 2147483647 r ≤ 2147483647 := by
      induction r with
      | bot => simp
      | top => simp
      | coe r => rw [Ideal.toIntClamped_coe]; omega
    have e : Ideal.toIntClamped (-(2 ^ (32 - 1) : Nat)) ((2 ^ (32 - 1) : Nat) - 1) r = Ideal.toIntClamped (-2147483648) 2147483647 r := by norm_num
    rw [e, BitVec.toInt_ofInt]
    rw [Int.bmod_def]
    split <;> omega
  rw [hval]
  refine if_congr ?_ rfl rfl
  induction r with
  | bot => simp only [Ideal.toIntClamped_bot, le_bot_iff]; exact ⟨fun h => by omega, fun h => absurd h (EReal.coe_ne_bot 1)⟩
  | top => simp
  | coe r =>
    rw [Ideal.toIntClamped_coe, show (1 : EReal) ≤ (r : EReal) ↔ 1 ≤ r by exact_mod_cast Iff.rfl]
    by_cases h0 : 0 ≤ r
    · rw [if_pos h0]
      constructor
      · intro h
        have : 1 ≤ ⌊r⌋ := by omega
        exact_mod_cast Int.le_floor.mp this
      · intro h
        have : 1 ≤ ⌊r⌋ := Int.le_floor.mpr (by exact_mod_cast h)
        omega
    · rw [if_neg h0]
      have : ⌈r⌉ ≤ 0 := Int.ceil_le.mpr (by push_cast; linarith)
      constructor
      · intro h; omega
      · intro h; linarith

/-- The reference's mask at one place is the bit. -/
theorem byte_eq (r : EReal) :
    (FloatOps.uitofp (F := Ideal) .f32 (IntOp.cmpi .sgt (IntOp.minsi 255#32 (IntOp.maxsi 0#32 (Ideal.fptosi 32 r))) 0#32) : EReal) = bit r := by
  rw [byte_pos]
  unfold bit
  split
  · show (((1#1).toNat : ℝ) : EReal) = 1
    norm_num
  · show (((0#1).toNat : ℝ) : EReal) = 0
    norm_num

/-- The kernel's mask at one place is the bit. -/
theorem ge_eq (r : EReal) :
    (FloatOps.sitofp (F := Ideal) .f32 ((Ideal.cmp .oge r 1).setWidth 32) : EReal) = bit r := by
  unfold bit Ideal.cmp
  by_cases h : 1 ≤ r
  · rw [if_pos h, decide_eq_true h]
    show ((((BitVec.ofBool true).setWidth 32).toInt : ℝ) : EReal) = 1
    rw [show ((BitVec.ofBool true).setWidth 32).toInt = 1 by decide]
    norm_num
  · rw [if_neg h, decide_eq_false h]
    show ((((BitVec.ofBool false).setWidth 32).toInt : ℝ) : EReal) = 0
    rw [show ((BitVec.ofBool false).setWidth 32).toInt = 0 by decide]
    norm_num

/-! ## The statistics -/

variable (x w : Fin 1024 → EReal)

def cnt : EReal := ∑ p, w p
def total : EReal := ∑ p, x p * w p
def mean : EReal := Ideal.div (total x w) (max (cnt w) 1)
def var : EReal := Ideal.div (∑ p, ((x p - mean x w) * (x p - mean x w)) * w p) (max (cnt w - 1) 1)
def top : EReal := (Finset.univ : Finset (Fin 1024)).fold max ⊥ fun p => Scalar.select (Ideal.cmp .ogt (w p) 0) (x p) ⊥
def bot : EReal := (Finset.univ : Finset (Fin 1024)).fold min ⊤ fun p => Scalar.select (Ideal.cmp .ogt (w p) 0) (x p) ⊤
def norm : EReal := ∑ p, max (x p) (-(x p)) * w p

/-- The six statistics in the order of the result's rows. -/
def stat (s : ℕ) : EReal :=
  match s with
  | 0 => mean x w
  | 1 => mean x w
  | 2 => var x w
  | 3 => top x w
  | 4 => bot x w
  | _ => norm x w

/-- The variance by the one-pass formula. -/
def varOnePass : EReal :=
  Ideal.div ((∑ p, (x p * w p) * (x p * w p)) - ((2 : ℝ) : EReal) * mean x w * total x w + cnt w * mean x w * mean x w) (max (cnt w - 1) 1)

variable {x w}

theorem coe_sum (f : Fin 1024 → ℝ) : ∑ p, ((f p : ℝ) : EReal) = ((∑ p, f p : ℝ) : EReal) := by
  induction (Finset.univ : Finset (Fin 1024)) using Finset.induction_on with
  | empty => simp
  | insert a s ha ih => rw [Finset.sum_insert ha, Finset.sum_insert ha, ih, EReal.coe_add]

theorem coe_max (a b : ℝ) : max ((a : ℝ) : EReal) (b : EReal) = ((max a b : ℝ) : EReal) :=
  (EReal.coe_strictMono.monotone.map_max).symm

theorem varOnePass_eq (hx : ∀ p, ∃ r : ℝ, x p = r) (hw : ∀ p, w p = 0 ∨ w p = 1) : varOnePass x w = var x w := by
  choose X hX using hx
  have hw' : ∀ p, ∃ r : ℝ, w p = r ∧ r * r = r ∧ 0 ≤ r := fun p => (hw p).elim
    (fun h => ⟨0, by simpa using h, by ring, le_refl _⟩) (fun h => ⟨1, by simpa using h, by ring, by norm_num⟩)
  choose W hW hWW hW0 using hw'
  obtain rfl : x = fun p => ((X p : ℝ) : EReal) := funext hX
  obtain rfl : w = fun p => ((W p : ℝ) : EReal) := funext hW
  have hc : cnt (fun p => ((W p : ℝ) : EReal)) = ((∑ p, W p : ℝ) : EReal) := coe_sum W
  have ht : total (fun p => ((X p : ℝ) : EReal)) (fun p => ((W p : ℝ) : EReal)) = ((∑ p, X p * W p : ℝ) : EReal) := by
    unfold total; rw [← coe_sum]; simp only [EReal.coe_mul]
  set C : ℝ := ∑ p, W p with hC
  set T : ℝ := ∑ p, X p * W p with hT
  have hm1 : max C 1 ≠ 0 := ne_of_gt (lt_of_lt_of_le one_pos (le_max_right _ _))
  have hm : mean (fun p => ((X p : ℝ) : EReal)) (fun p => ((W p : ℝ) : EReal)) = ((T * (1 / max C 1) : ℝ) : EReal) := by
    unfold mean
    rw [hc, ht, ← EReal.coe_one, coe_max, Ideal.div_coe hm1, ← EReal.coe_mul]
  set M : ℝ := T * (1 / max C 1) with hM
  have hCM : C * M = T ∨ (C < 1 ∧ C = 0 ∧ T = 0) := by
    have hbin : ∀ p, W p = 0 ∨ W p = 1 := fun p => by
      have h := hWW p
      have h2 : W p * (W p - 1) = 0 := by linarith
      rcases mul_eq_zero.mp h2 with h3 | h3
      · exact Or.inl h3
      · exact Or.inr (by linarith)
    by_cases hall : ∀ p, W p = 0
    · right
      have : C = 0 := by rw [hC]; exact Finset.sum_eq_zero fun p _ => hall p
      exact ⟨by rw [this]; norm_num, this, by rw [hT]; exact Finset.sum_eq_zero fun p _ => by rw [hall p, mul_zero]⟩
    · left
      rw [not_forall] at hall
      obtain ⟨p, hp⟩ := hall
      have hp1 : W p = 1 := (hbin p).resolve_left hp
      have : 1 ≤ C := by
        rw [hC, ← hp1]; exact Finset.single_le_sum (f := W) (fun q _ => hW0 q) (Finset.mem_univ p)
      rw [hM, max_eq_left this]
      field_simp
  unfold varOnePass var
  rw [hm, hc, ht]
  have e1 : (∑ p, ((X p : ℝ) : EReal) * ((W p : ℝ) : EReal) * (((X p : ℝ) : EReal) * ((W p : ℝ) : EReal)))
      = ((∑ p, X p * X p * W p : ℝ) : EReal) := by
    refine Eq.trans (Finset.sum_congr rfl fun p _ => ?_) (coe_sum _)
    have e : X p * W p * (X p * W p) = X p * X p * W p := by
      calc X p * W p * (X p * W p) = X p * X p * (W p * W p) := by ring
        _ = _ := by rw [hWW p]
    rw [← EReal.coe_mul, ← EReal.coe_mul, e]
  have e2 : (∑ p, ((((X p : ℝ) : EReal) - ((M : ℝ) : EReal)) * (((X p : ℝ) : EReal) - ((M : ℝ) : EReal))) * ((W p : ℝ) : EReal))
      = ((∑ p, (X p - M) * (X p - M) * W p : ℝ) : EReal) := by
    refine Eq.trans (Finset.sum_congr rfl fun p _ => ?_) (coe_sum _)
    rw [← EReal.coe_sub, ← EReal.coe_mul, ← EReal.coe_mul]
  rw [e1, e2, ← EReal.coe_mul, ← EReal.coe_mul, ← EReal.coe_mul, ← EReal.coe_mul, ← EReal.coe_sub, ← EReal.coe_add]
  have e3 : ∑ p, (X p - M) * (X p - M) * W p = (∑ p, X p * X p * W p) - 2 * M * T + C * M * M := by
    rw [hT, hC, Finset.mul_sum, Finset.sum_mul, Finset.sum_mul, ← Finset.sum_sub_distrib, ← Finset.sum_add_distrib]
    exact Finset.sum_congr rfl fun p _ => by ring
  rw [e3]

theorem norm_eq (hw : ∀ p, w p = 0 ∨ w p = 1) : ∑ p, max (x p * w p) (-(x p * w p)) = norm x w :=
  Finset.sum_congr rfl fun p _ => by rcases hw p with h | h <;> simp [h]

/-! ## An empty mask -/

theorem cnt_nonneg (hw : ∀ p, w p = 0 ∨ w p = 1) : 0 ≤ cnt w :=
  Finset.sum_nonneg fun p _ => by rcases hw p with h | h <;> simp [h]

theorem empty_of_cnt (hw : ∀ p, w p = 0 ∨ w p = 1) (h : cnt w ≤ 0) : ∀ p, w p = 0 := by
  intro p
  have h0 : ∀ q ∈ (Finset.univ : Finset (Fin 1024)), 0 ≤ w q := fun q _ => by rcases hw q with h | h <;> simp [h]
  exact (Finset.sum_eq_zero_iff_of_nonneg h0).mp (le_antisymm h (cnt_nonneg hw)) p (Finset.mem_univ p)

theorem div_zero_one : Ideal.div 0 (max 0 1) = 0 := by
  rw [max_eq_right zero_le_one, ← EReal.coe_one, Ideal.div_coe one_ne_zero, zero_mul]

theorem fold_const (f : EReal → EReal → EReal) [Std.Commutative f] [Std.Associative f] (a : EReal) (h : f a a = a) :
    (Finset.univ : Finset (Fin 1024)).fold f a (fun _ => a) = a := by
  induction (Finset.univ : Finset (Fin 1024)) using Finset.induction_on with
  | empty => simp
  | insert b s hb ih => rw [Finset.fold_insert hb, ih, h]

theorem stat_empty (h0 : ∀ p, w p = 0) (s : ℕ) : stat x w s = if s < 3 then 0 else if s = 3 then ⊥ else if s = 4 then ⊤ else 0 := by
  have hc : cnt w = 0 := Finset.sum_eq_zero fun p _ => h0 p
  have hm : mean x w = 0 := by
    unfold mean total
    rw [hc, Finset.sum_eq_zero fun p _ => by rw [h0 p, mul_zero], div_zero_one]
  have hcmp : Ideal.cmp .ogt (0 : EReal) 0 = 0#1 := by simp [Ideal.cmp]
  match s with
  | 0 => simpa [stat] using hm
  | 1 => simpa [stat] using hm
  | 2 =>
    simp only [stat, var]
    rw [Finset.sum_eq_zero fun p _ => by rw [h0 p, mul_zero], hc, ← EReal.coe_one, ← EReal.coe_zero, ← EReal.coe_sub, coe_max,
      Ideal.div_coe (by norm_num)]
    simp
  | 3 =>
    simp only [stat, top, h0, hcmp]
    have : ∀ p : Fin 1024, Scalar.select (0#1) (x p) (⊥ : EReal) = ⊥ := fun p => rfl
    simp only [this]
    rw [fold_const max ⊥ (max_self _)]
    simp
  | 4 =>
    simp only [stat, bot, h0, hcmp]
    have : ∀ p : Fin 1024, Scalar.select (0#1) (x p) (⊤ : EReal) = ⊤ := fun p => rfl
    simp only [this]
    rw [fold_const min ⊤ (min_self _)]
    simp
  | n + 5 =>
    simp only [stat, norm]
    rw [Finset.sum_eq_zero fun p _ => by rw [h0 p, mul_zero]]
    simp

end Cert.Spec

end
-- ==== Proof.RefVal.lean ====
/- The reference's result, place by place: the statistics of Proof/Spec.lean of each channel over the resized mask. -/
module

public import proofs.«01_k».proof.Proof.Spec
public import proofs.«01_k».proof.Proof.Gen.ReferenceIdeal.Run
public import Idealize.ShloMosaic.Lib.ValueIdx
public import Idealize.ShloMosaic.Lib.IdealHost
public import Idealize.ShloMosaic.Lib.Pipeline.Value

@[expose] public section

set_option maxRecDepth 16384

noncomputable section

namespace Cert.ReferenceIdeal.Val

open Cert.ReferenceIdeal Cert.ReferenceIdeal.Gen Cert.ReferenceIdeal.Value
open Idealize.ShloMosaic
open Idealize.ShloMosaic.TcCoe Idealize.ShloMosaic.ValueIdx
open scoped BigOperators

/-! ## The statistics of one level as terms of its features and the mask -/

section Level

variable (x : FVec Ideal S16x768x1024 .f32) (w : FVec Ideal S16x1024 .f32)

abbrev cntT : FVec Ideal S16 .f32 := Host.reduceAdd w (constant S_ .f32 0x00000000#32) reducesTo_S16x1024_S16_d1 h_S_

abbrev rowT : FVec Ideal S16x1x1024 .f32 := broadcastInDim S16x1x1024 ![0, 2] bcast_S16x1024_S16x1x1024_0_2 w

abbrev allT : FVec Ideal S16x768x1024 .f32 := broadcastInDim S16x768x1024 ![0, 1, 2] bcast_S16x1x1024_S16x768x1024_0_1_2 (rowT w)

abbrev meanT : FVec Ideal S16x768 .f32 :=
  Host.divf (Host.reduceAdd (mulf x (allT w)) (constant S_ .f32 0x00000000#32) reducesTo_S16x768x1024_S16x768_d2 h_S_)
    (broadcastInDim S16x768 ![0, 1] bcast_S16x1_S16x768_0_1 (broadcastInDim S16x1 ![0] bcast_S16_S16x1_0
      (maximumf (cntT w) (broadcastInDim S16 ![] bcast_S_S16 (constant S_ .f32 0x3F800000#32)))))

abbrev devT : FVec Ideal S16x768x1024 .f32 :=
  subf x (broadcastInDim S16x768x1024 ![0, 1, 2] bcast_S16x768x1_S16x768x1024_0_1_2
    (broadcastInDim S16x768x1 ![0, 1] bcast_S16x768_S16x768x1_0_1 (meanT x w)))

abbrev varT : FVec Ideal S16x768 .f32 :=
  Host.divf (Host.reduceAdd (mulf (mulf (devT x w) (devT x w)) (allT w)) (constant S_ .f32 0x00000000#32) reducesTo_S16x768x1024_S16x768_d2 h_S_)
    (broadcastInDim S16x768 ![0, 1] bcast_S16x1_S16x768_0_1 (broadcastInDim S16x1 ![0] bcast_S16_S16x1_0
      (maximumf (subf (cntT w) (broadcastInDim S16 ![] bcast_S_S16 (constant S_ .f32 0x3F800000#32))) (broadcastInDim S16 ![] bcast_S_S16 (constant S_ .f32 0x3F800000#32)))))

abbrev posT : IVec S16x768x1024 1 :=
  broadcastInDim S16x768x1024 ![0, 1, 2] bcast_S16x1x1024_S16x768x1024_0_1_2
    (cmpf .ogt (rowT w) (broadcastInDim S16x1x1024 ![] bcast_S_S16x1x1024 (constant S_ .f32 0x00000000#32)))

abbrev topT : FVec Ideal S16x768 .f32 :=
  Host.reduce FloatOps.maximumf (select (posT w) x (broadcastInDim S16x768x1024 ![] bcast_S_S16x768x1024 (constant S_ .f32 0xFF800000#32)))
    (constant S_ .f32 0xFF800000#32) reducesTo_S16x768x1024_S16x768_d2 h_S_

abbrev botT : FVec Ideal S16x768 .f32 :=
  Host.reduce FloatOps.minimumf (select (posT w) x (broadcastInDim S16x768x1024 ![] bcast_S_S16x768x1024 (constant S_ .f32 0x7F800000#32)))
    (constant S_ .f32 0x7F800000#32) reducesTo_S16x768x1024_S16x768_d2 h_S_

abbrev normT : FVec Ideal S16x768 .f32 :=
  Host.reduceAdd (mulf (Host.absf x) (allT w)) (constant S_ .f32 0x00000000#32) reducesTo_S16x768x1024_S16x768_d2 h_S_

abbrev levelT : FVec Ideal S16x4608 .f32 :=
  concatenate S16x4608 1 [⟨S16x768, meanT x w⟩, ⟨S16x768, meanT x w⟩, ⟨S16x768, varT x w⟩, ⟨S16x768, topT x w⟩, ⟨S16x768, botT x w⟩, ⟨S16x768, normT x w⟩]
    concatenates_S16x768_S16x768_S16x768_S16x768_S16x768_S16x768_S16x4608_d1

end Level

theorem res_eq (V : Valuation τ sig (Elt Ideal)) :
    res_main_v185 V = concatenate S16x9216 1 [⟨S16x4608, levelT (res_main_v107 V) (res_main_v104 V)⟩, ⟨S16x4608, levelT (res_main_v147 V) (res_main_v104 V)⟩]
      concatenates_S16x4608_S16x4608_S16x9216_d1 := rfl

/-! ## Each of them at one place -/

section Level

variable (x : FVec Ideal S16x768x1024 .f32) (w : FVec Ideal S16x1024 .f32) (n : Fin 16) (ch : Fin 768)

theorem sum_row (y : FVec Ideal S16x1024 .f32) (j : S16.Idx) :
    Host.reduceAdd y (constant S_ .f32 0x00000000#32) reducesTo_S16x1024_S16_d1 h_S_ j = ∑ p : Fin 1024, y (ix2 (j 0) p) := by
  have h : S16x1024.Reduces [1] S16 := by decide
  rw [hostReduceAdd_apply, Ideal.hostReduceAdd_single _ h]
  rw [show (constant (F := Ideal) S_ .f32 0x00000000#32) (Shape.Idx.first h_S_) = 0 from Ideal.ofBits_zero_f32, zero_add]
  exact Finset.sum_congr rfl fun p _ => congrArg y (eq_ix2 _)

theorem sum_last (y : FVec Ideal S16x768x1024 .f32) :
    Host.reduceAdd y (constant S_ .f32 0x00000000#32) reducesTo_S16x768x1024_S16x768_d2 h_S_ (ix2 n ch) = ∑ p : Fin 1024, y (ix3 n ch p) := by
  have h : S16x768x1024.Reduces [2] S16x768 := by decide
  rw [hostReduceAdd_apply, Ideal.hostReduceAdd_single _ h]
  rw [show (constant (F := Ideal) S_ .f32 0x00000000#32) (Shape.Idx.first h_S_) = 0 from Ideal.ofBits_zero_f32, zero_add]
  exact Finset.sum_congr rfl fun p _ => congrArg y (eq_ix3 _)

theorem fold_last (f : EReal → EReal → EReal) [Std.Commutative f] [Std.Associative f] (b : BitVec 32) (y : FVec Ideal S16x768x1024 .f32) :
    Host.reduce f y (constant (F := Ideal) S_ .f32 b) reducesTo_S16x768x1024_S16x768_d2 h_S_ (ix2 n ch)
      = (Finset.univ : Finset (Fin 1024)).fold f (Ideal.ofBits .f32 b) fun p => y (ix3 n ch p) := by
  have h : S16x768x1024.Reduces [2] S16x768 := by decide
  rw [Host.reduce_eq_fold_single f y _ _ h]
  exact Finset.fold_congr fun p _ => congrArg y (eq_ix3 _)

theorem allT_apply {α : Type} (y : S16x1x1024.Idx → α) (p : Fin 1024) :
    broadcastInDim S16x768x1024 ![0, 1, 2] bcast_S16x1x1024_S16x768x1024_0_1_2 y (ix3 n ch p) = y (ix3 n 0 p) :=
  broadcastInDim_apply _ _ _ _ _ fun a => match a with | ⟨0, _⟩ => rfl | ⟨1, _⟩ => rfl | ⟨2, _⟩ => rfl

theorem rowT_apply (p : Fin 1024) : rowT w (ix3 n 0 p) = w (ix2 n p) :=
  broadcastInDim_apply _ _ _ _ _ fun a => match a with | ⟨0, _⟩ => rfl | ⟨1, _⟩ => rfl

theorem all_apply (p : Fin 1024) : allT w (ix3 n ch p) = w (ix2 n p) :=
  (allT_apply n ch _ p).trans (rowT_apply w n p)

theorem perRow_apply (y : FVec Ideal S16 .f32) :
    broadcastInDim S16x768 ![0, 1] bcast_S16x1_S16x768_0_1 (broadcastInDim S16x1 ![0] bcast_S16_S16x1_0 y) (ix2 n ch) = y (ix1 n) := by
  rw [broadcastInDim_apply _ _ _ (ix2 n ch) (ix2 n 0) fun a => match a with | ⟨0, _⟩ => rfl | ⟨1, _⟩ => rfl]
  exact broadcastInDim_apply _ _ _ _ _ fun a => match a with | ⟨0, _⟩ => rfl

theorem perChannel_apply (y : FVec Ideal S16x768 .f32) (p : Fin 1024) :
    broadcastInDim S16x768x1024 ![0, 1, 2] bcast_S16x768x1_S16x768x1024_0_1_2 (broadcastInDim S16x768x1 ![0, 1] bcast_S16x768_S16x768x1_0_1 y) (ix3 n ch p)
      = y (ix2 n ch) := by
  rw [broadcastInDim_apply _ _ _ (ix3 n ch p) (ix3 n ch 0) fun a => match a with | ⟨0, _⟩ => rfl | ⟨1, _⟩ => rfl | ⟨2, _⟩ => rfl]
  exact broadcastInDim_apply _ _ _ _ _ fun a => match a with | ⟨0, _⟩ => rfl | ⟨1, _⟩ => rfl

/-- One channel's features. -/
abbrev xs : Fin 1024 → EReal := fun p => x (ix3 n ch p)
/-- One image's mask. -/
abbrev ws : Fin 1024 → EReal := fun p => w (ix2 n p)

theorem cntT_apply : cntT w (ix1 n) = Spec.cnt (ws w n) := sum_row w (ix1 n)

theorem meanT_apply : meanT x w (ix2 n ch) = Spec.mean (xs x n ch) (ws w n) := by
  rw [meanT, hostDivf_apply, sum_last, perRow_apply, maximumf_apply, cntT_apply, broadcastInDim_scalar_apply, constant_apply, Ideal.ofBits_one_f32]
  unfold Spec.mean Spec.total
  refine congrArg (Ideal.div · _) (Finset.sum_congr rfl fun p _ => ?_)
  rw [mulf_apply, all_apply]

theorem devT_apply (p : Fin 1024) : devT x w (ix3 n ch p) = xs x n ch p - Spec.mean (xs x n ch) (ws w n) := by
  rw [devT, subf_apply, perChannel_apply, meanT_apply]

theorem varT_apply : varT x w (ix2 n ch) = Spec.var (xs x n ch) (ws w n) := by
  rw [varT, hostDivf_apply, sum_last, perRow_apply, maximumf_apply, subf_apply, cntT_apply, broadcastInDim_scalar_apply, constant_apply, Ideal.ofBits_one_f32]
  unfold Spec.var
  refine congrArg (Ideal.div · _) (Finset.sum_congr rfl fun p _ => ?_)
  rw [mulf_apply, mulf_apply, all_apply]
  have e := devT_apply x w n ch p
  exact congrArg (fun z => z * z * w (ix2 n p)) e

theorem normT_apply : normT x w (ix2 n ch) = Spec.norm (xs x n ch) (ws w n) := by
  rw [normT, sum_last]
  unfold Spec.norm
  refine Finset.sum_congr rfl fun p _ => ?_
  rw [mulf_apply, all_apply]
  rfl

theorem posT_apply (p : Fin 1024) : posT w (ix3 n ch p) = Ideal.cmp .ogt (ws w n p) 0 := by
  rw [posT, allT_apply, cmpf_apply, rowT_apply, broadcastInDim_scalar_apply, constant_apply, Ideal.ofBits_zero_f32]
  rfl

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

theorem topT_apply : topT x w (ix2 n ch) = Spec.top (xs x n ch) (ws w n) := by
  refine (fold_last n ch max 0xFF800000#32 _).trans ?_
  unfold Spec.top
  rw [neg_inf]
  refine Finset.fold_congr fun p _ => ?_
  rw [select_apply]
  refine (congrArg (Scalar.select · _ _) (posT_apply w n ch p)).trans ?_
  rw [broadcastInDim_scalar_apply, constant_apply, neg_inf]

theorem botT_apply : botT x w (ix2 n ch) = Spec.bot (xs x n ch) (ws w n) := by
  refine (fold_last n ch min 0x7F800000#32 _).trans ?_
  unfold Spec.bot
  rw [pos_inf]
  refine Finset.fold_congr fun p _ => ?_
  rw [select_apply]
  refine (congrArg (Scalar.select · _ _) (posT_apply w n ch p)).trans ?_
  rw [broadcastInDim_scalar_apply, constant_apply, pos_inf]

theorem six_apply (y₀ y₁ y₂ y₃ y₄ y₅ : FVec Ideal S16x768 .f32) (q : Fin 4608) :
    (∀ h : q.val = 0 * 768 + ch.val, concatenate S16x4608 1 [⟨S16x768, y₀⟩, ⟨S16x768, y₁⟩, ⟨S16x768, y₂⟩, ⟨S16x768, y₃⟩, ⟨S16x768, y₄⟩, ⟨S16x768, y₅⟩]
      concatenates_S16x768_S16x768_S16x768_S16x768_S16x768_S16x768_S16x4608_d1 (ix2 n q) = y₀ (ix2 n ch))
    ∧ (∀ h : q.val = 1 * 768 + ch.val, concatenate S16x4608 1 [⟨S16x768, y₀⟩, ⟨S16x768, y₁⟩, ⟨S16x768, y₂⟩, ⟨S16x768, y₃⟩, ⟨S16x768, y₄⟩, ⟨S16x768, y₅⟩]
      concatenates_S16x768_S16x768_S16x768_S16x768_S16x768_S16x768_S16x4608_d1 (ix2 n q) = y₁ (ix2 n ch))
    ∧ (∀ h : q.val = 2 * 768 + ch.val, concatenate S16x4608 1 [⟨S16x768, y₀⟩, ⟨S16x768, y₁⟩, ⟨S16x768, y₂⟩, ⟨S16x768, y₃⟩, ⟨S16x768, y₄⟩, ⟨S16x768, y₅⟩]
      concatenates_S16x768_S16x768_S16x768_S16x768_S16x768_S16x768_S16x4608_d1 (ix2 n q) = y₂ (ix2 n ch))
    ∧ (∀ h : q.val = 3 * 768 + ch.val, concatenate S16x4608 1 [⟨S16x768, y₀⟩, ⟨S16x768, y₁⟩, ⟨S16x768, y₂⟩, ⟨S16x768, y₃⟩, ⟨S16x768, y₄⟩, ⟨S16x768, y₅⟩]
      concatenates_S16x768_S16x768_S16x768_S16x768_S16x768_S16x768_S16x4608_d1 (ix2 n q) = y₃ (ix2 n ch))
    ∧ (∀ h : q.val = 4 * 768 + ch.val, concatenate S16x4608 1 [⟨S16x768, y₀⟩, ⟨S16x768, y₁⟩, ⟨S16x768, y₂⟩, ⟨S16x768, y₃⟩, ⟨S16x768, y₄⟩, ⟨S16x768, y₅⟩]
      concatenates_S16x768_S16x768_S16x768_S16x768_S16x768_S16x768_S16x4608_d1 (ix2 n q) = y₄ (ix2 n ch))
    ∧ (∀ h : q.val = 5 * 768 + ch.val, concatenate S16x4608 1 [⟨S16x768, y₀⟩, ⟨S16x768, y₁⟩, ⟨S16x768, y₂⟩, ⟨S16x768, y₃⟩, ⟨S16x768, y₄⟩, ⟨S16x768, y₅⟩]
      concatenates_S16x768_S16x768_S16x768_S16x768_S16x768_S16x768_S16x4608_d1 (ix2 n q) = y₅ (ix2 n ch)) := by
  have hi : ∀ b : Fin S16x768.rank, b.cast (rfl : S16x768.rank = S16x4608.rank) ≠ 1 →
      ((ix2 n ch : S16x768.Idx) b).val = ((ix2 n q : S16x4608.Idx) (b.cast rfl)).val := fun b => match b with
    | ⟨0, _⟩ => fun _ => rfl
    | ⟨1, _⟩ => fun h => absurd rfl h
  refine ⟨fun h => ?_, fun h => ?_, fun h => ?_, fun h => ?_, fun h => ?_, fun h => ?_⟩
  · exact concatenate_apply_piece 1 _ _ (ix2 n q) 0 (by exact (show 0 < 6 by decide)) S16x768 y₀ (by rfl) rfl (0 * 768) (by exact (show ([] : List ℕ).sum = 0 * 768 by decide)) (ix2 n ch) hi h.symm
  · exact concatenate_apply_piece 1 _ _ (ix2 n q) 1 (by exact (show 1 < 6 by decide)) S16x768 y₁ (by rfl) rfl (1 * 768) (by exact (show ([768] : List ℕ).sum = 1 * 768 by decide)) (ix2 n ch) hi h.symm
  · exact concatenate_apply_piece 1 _ _ (ix2 n q) 2 (by exact (show 2 < 6 by decide)) S16x768 y₂ (by rfl) rfl (2 * 768) (by exact (show ([768, 768] : List ℕ).sum = 2 * 768 by decide)) (ix2 n ch) hi h.symm
  · exact concatenate_apply_piece 1 _ _ (ix2 n q) 3 (by exact (show 3 < 6 by decide)) S16x768 y₃ (by rfl) rfl (3 * 768) (by exact (show ([768, 768, 768] : List ℕ).sum = 3 * 768 by decide)) (ix2 n ch) hi h.symm
  · exact concatenate_apply_piece 1 _ _ (ix2 n q) 4 (by exact (show 4 < 6 by decide)) S16x768 y₄ (by rfl) rfl (4 * 768) (by exact (show ([768, 768, 768, 768] : List ℕ).sum = 4 * 768 by decide)) (ix2 n ch) hi h.symm
  · exact concatenate_apply_piece 1 _ _ (ix2 n q) 5 (by exact (show 5 < 6 by decide)) S16x768 y₅ (by rfl) rfl (5 * 768) (by exact (show ([768, 768, 768, 768, 768] : List ℕ).sum = 5 * 768 by decide)) (ix2 n ch) hi h.symm

theorem levelT_apply (s : Fin 6) (q : Fin 4608) (hq : q.val = s.val * 768 + ch.val) :
    levelT x w (ix2 n q) = Spec.stat (xs x n ch) (ws w n) s.val := by
  have H := six_apply n ch (meanT x w) (meanT x w) (varT x w) (topT x w) (botT x w) (normT x w) q
  obtain ⟨s, hs⟩ := s
  have : s = 0 ∨ s = 1 ∨ s = 2 ∨ s = 3 ∨ s = 4 ∨ s = 5 := by omega
  rcases this with rfl | rfl | rfl | rfl | rfl | rfl
  · exact (H.1 hq).trans (meanT_apply x w n ch)
  · exact (H.2.1 hq).trans (meanT_apply x w n ch)
  · exact (H.2.2.1 hq).trans (varT_apply x w n ch)
  · exact (H.2.2.2.1 hq).trans (topT_apply x w n ch)
  · exact (H.2.2.2.2.1 hq).trans (botT_apply x w n ch)
  · exact (H.2.2.2.2.2 hq).trans (normT_apply x w n ch)

end Level

/-! ## The mask and the features -/

/-- The resizing weights. -/
def wT (V : Valuation τ sig (Elt Ideal)) : FVec Ideal S512x32 .f32 :=
  select (broadcastInDim S512x32 ![0, 1] bcast_S1x32_S512x32_0_1 (broadcastInDim S1x32 ![1] bcast_S32_S1x32_1 (andi (cmpf .oge (res_main_v9 V) (broadcastInDim S32 ![] bcast_S_S32 (constant S_ .f32 0xBF000000#32))) (cmpf .ole (res_main_v9 V) (broadcastInDim S32 ![] bcast_S_S32 (constant S_ .f32 0x43FFC000#32))))))
    (select (broadcastInDim S512x32 ![0, 1] bcast_S1x32_S512x32_0_1 (cmpf .ogt (Host.absf (res_main_v26 V)) (broadcastInDim S1x32 ![] bcast_S_S1x32 (constant S_ .f32 0x38FA0000#32))))
      (Host.divf (res_main_v24 V) (broadcastInDim S512x32 ![0, 1] bcast_S1x32_S512x32_0_1 (select (cmpf .une (res_main_v26 V) (broadcastInDim S1x32 ![] bcast_S_S1x32 (constant S_ .f32 0x00000000#32))) (res_main_v26 V) (broadcastInDim S1x32 ![] bcast_S_S1x32 (constant S_ .f32 0x3F800000#32)))))
      (broadcastInDim S512x32 ![] bcast_S_S512x32 (constant S_ .f32 0x00000000#32)))
    (broadcastInDim S512x32 ![] bcast_S_S512x32 (constant S_ .f32 0x00000000#32))

variable (W : FVec Ideal S512x32 .f32) (G : FVec Ideal S16x1x512x512 .f32)

abbrev rowsT : FVec Ideal S32x16x1x512 .f32 := Host.dotGeneral dot_S512x32_S16x1x512x512_S32x16x1x512_0_2_1_013_n_n (some .fp32) W G

abbrev resT : FVec Ideal S32x16x1x32 .f32 := Host.dotGeneral dot_S32x16x1x512_S512x32_S32x16x1x32_3_0_012_1_n_n (some .fp32) (rowsT W G) W

abbrev maskT : FVec Ideal S16x1024 .f32 :=
  shapeCast S16x1024 (uitofp .f32 (cmpi .sgt (minsi (broadcastInDim S16x1x32x32 ![] bcast_S_S16x1x32x32 (id (constantI S_ 32 255#32)))
    (maxsi (broadcastInDim S16x1x32x32 ![] bcast_S_S16x1x32x32 (id (constantI S_ 32 0#32)))
      (fptosi 32 (transpose S16x1x32x32 [1, 2, 0, 3] (resT W G) transposes_S32x16x1x32_S16x1x32x32_1_2_0_3))))
    (broadcastInDim S16x1x32x32 ![] bcast_S_S16x1x32x32 (constantI S_ 32 0#32)))) shapeCasts_S16x1x32x32_S16x1024

theorem mask_eq (V : Valuation τ sig (Elt Ideal)) : res_main_v104 V = maskT (wT V) (V (Proc.devRef .tc main_arg1)) := rfl

theorem rowsT_apply (i : Fin 32) (n : Fin 16) (q : Fin 512) : rowsT W G (ix4 i n 0 q) = ∑ h : Fin 512, W (ix2 h i) * G (ix4 n 0 h q) := by
  refine (Ideal.dotGeneral_apply _ _ _ _ _ _).trans ?_
  rw [← Equiv.sum_comp (contrEquiv1 dot_S512x32_S16x1x512x512_S32x16x1x512_0_2_1_013_n_n 512 rfl rfl).symm]
  refine Finset.sum_congr rfl fun k _ => ?_
  have hk := contrEquiv1_symm_val dot_S512x32_S16x1x512x512_S32x16x1x512_0_2_1_013_n_n 512 rfl rfl k
  refine congr (congrArg HMul.hMul (congrArg W (funext fun a => Fin.ext ?_))) (congrArg G (funext fun a => Fin.ext ?_))
  · match a with
    | ⟨0, _⟩ => exact hk
    | ⟨1, _⟩ => rfl
  · match a with
    | ⟨0, _⟩ => rfl
    | ⟨1, _⟩ => rfl
    | ⟨2, _⟩ => exact hk
    | ⟨3, _⟩ => rfl

theorem resT_apply (n : Fin 16) (i j : Fin 32) :
    resT W G (ix4 i n 0 j) = Spec.resized (fun h i => W (ix2 h i)) (fun h q => G (ix4 n 0 h q)) i j := by
  refine (Ideal.dotGeneral_apply _ _ _ _ _ _).trans ?_
  rw [← Equiv.sum_comp (contrEquiv1 dot_S32x16x1x512_S512x32_S32x16x1x32_3_0_012_1_n_n 512 rfl rfl).symm]
  unfold Spec.resized
  refine Finset.sum_congr rfl fun k _ => ?_
  have hk := contrEquiv1_symm_val dot_S32x16x1x512_S512x32_S32x16x1x32_3_0_012_1_n_n 512 rfl rfl k
  refine congr (congrArg HMul.hMul (Eq.trans (congrArg (rowsT W G) (funext fun a => Fin.ext ?_)) (rowsT_apply W G i n k)))
    (congrArg W (funext fun a => Fin.ext ?_))
  · match a with
    | ⟨0, _⟩ => rfl
    | ⟨1, _⟩ => rfl
    | ⟨2, _⟩ => rfl
    | ⟨3, _⟩ => exact hk
  · match a with
    | ⟨0, _⟩ => exact hk
    | ⟨1, _⟩ => rfl

/-- A flat place's row and column. -/
abbrev prow (p : Fin 1024) : Fin 32 := ⟨p.val / 32, by omega⟩
abbrev pcol (p : Fin 1024) : Fin 32 := ⟨p.val % 32, by omega⟩

theorem maskT_apply (n : Fin 16) (p : Fin 1024) :
    maskT W G (ix2 n p) = Spec.bit (Spec.resized (fun h i => W (ix2 h i)) (fun h q => G (ix4 n 0 h q)) (prow p) (pcol p)) := by
  have e1 := shapeCast_apply (uitofp (F := Ideal) .f32 (cmpi .sgt (minsi (broadcastInDim S16x1x32x32 ![] bcast_S_S16x1x32x32 (id (constantI S_ 32 255#32)))
    (maxsi (broadcastInDim S16x1x32x32 ![] bcast_S_S16x1x32x32 (id (constantI S_ 32 0#32)))
      (fptosi 32 (transpose S16x1x32x32 [1, 2, 0, 3] (resT W G) transposes_S32x16x1x32_S16x1x32x32_1_2_0_3))))
    (broadcastInDim S16x1x32x32 ![] bcast_S_S16x1x32x32 (constantI S_ 32 0#32)))) shapeCasts_S16x1x32x32_S16x1024 (ix2 n p) (ix4 n 0 (prow p) (pcol p))
    (by rw [Shape.rowMajor_val_four, Shape.rowMajor_val_two]
        show ((n.val * 1 + 0) * 32 + p.val / 32) * 32 + p.val % 32 = n.val * 1024 + p.val
        omega)
  refine e1.trans ?_
  have e2 : transpose S16x1x32x32 [1, 2, 0, 3] (resT W G) transposes_S32x16x1x32_S16x1x32x32_1_2_0_3 (ix4 n 0 (prow p) (pcol p))
      = resT W G (ix4 (prow p) n 0 (pcol p)) :=
    transpose_apply _ _ _ _ _ fun b => match b with | ⟨0, _⟩ => rfl | ⟨1, _⟩ => rfl | ⟨2, _⟩ => rfl | ⟨3, _⟩ => rfl
  rw [← resT_apply, ← e2, ← Spec.byte_eq]
  rfl

theorem x0_apply (V : Valuation τ sig (Elt Ideal)) (n : Fin 16) (ch : Fin 768) (p : Fin 1024) :
    res_main_v107 V (ix3 n ch p) = V (Proc.devRef .tc main_arg0) (ix5 0 n ch (prow p) (pcol p)) := by
  unfold res_main_v107
  generalize V (Proc.devRef .tc main_arg0) = Y
  refine (shapeCast_apply _ _ (ix3 n ch p) (ix4 n ch (prow p) (pcol p))
    (by rw [Shape.rowMajor_val_four, Shape.rowMajor_val_three]
        show ((n.val * 768 + ch.val) * 32 + p.val / 32) * 32 + p.val % 32 = (n.val * 768 + ch.val) * 1024 + p.val
        omega)).trans ?_
  refine (shapeCast_apply _ _ (ix4 n ch (prow p) (pcol p)) (ix5 0 n ch (prow p) (pcol p))
    (by rw [Shape.rowMajor_val_five, Shape.rowMajor_val_four]
        show (((0 * 16 + n.val) * 768 + ch.val) * 32 + p.val / 32) * 32 + p.val % 32 = ((n.val * 768 + ch.val) * 32 + p.val / 32) * 32 + p.val % 32
        omega)).trans ?_
  exact extractStridedSlice_apply _ _ _ _ _ fun a => match a with
    | ⟨0, _⟩ => rfl | ⟨1, _⟩ => (Nat.zero_add _).symm | ⟨2, _⟩ => (Nat.zero_add _).symm | ⟨3, _⟩ => (Nat.zero_add _).symm | ⟨4, _⟩ => (Nat.zero_add _).symm

theorem x1_apply (V : Valuation τ sig (Elt Ideal)) (n : Fin 16) (ch : Fin 768) (p : Fin 1024) :
    res_main_v147 V (ix3 n ch p) = V (Proc.devRef .tc main_arg0) (ix5 1 n ch (prow p) (pcol p)) := by
  unfold res_main_v147
  generalize V (Proc.devRef .tc main_arg0) = Y
  refine (shapeCast_apply _ _ (ix3 n ch p) (ix4 n ch (prow p) (pcol p))
    (by rw [Shape.rowMajor_val_four, Shape.rowMajor_val_three]
        show ((n.val * 768 + ch.val) * 32 + p.val / 32) * 32 + p.val % 32 = (n.val * 768 + ch.val) * 1024 + p.val
        omega)).trans ?_
  refine (shapeCast_apply _ _ (ix4 n ch (prow p) (pcol p)) (ix5 0 n ch (prow p) (pcol p))
    (by rw [Shape.rowMajor_val_five, Shape.rowMajor_val_four]
        show (((0 * 16 + n.val) * 768 + ch.val) * 32 + p.val / 32) * 32 + p.val % 32 = ((n.val * 768 + ch.val) * 32 + p.val / 32) * 32 + p.val % 32
        omega)).trans ?_
  exact extractStridedSlice_apply _ _ _ _ _ fun a => match a with
    | ⟨0, _⟩ => rfl | ⟨1, _⟩ => (Nat.zero_add _).symm | ⟨2, _⟩ => (Nat.zero_add _).symm | ⟨3, _⟩ => (Nat.zero_add _).symm | ⟨4, _⟩ => (Nat.zero_add _).symm

/-- The mask of image `n` over the flat places, from weights `W` and images `G`. -/
def maskAt (n : Fin 16) : Fin 1024 → EReal :=
  fun p => Spec.bit (Spec.resized (fun h i => W (ix2 h i)) (fun h q => G (ix4 n 0 h q)) (prow p) (pcol p))

/-- The features of channel `ch` of image `n` at level `l` over the flat places. -/
def featAt (X : FVec Ideal S2x16x768x32x32 .f32) (l : Fin 2) (n : Fin 16) (ch : Fin 768) : Fin 1024 → EReal :=
  fun p => X (ix5 l n ch (prow p) (pcol p))

theorem res_apply (V : Valuation τ sig (Elt Ideal)) (l : Fin 2) (n : Fin 16) (s : Fin 6) (ch : Fin 768) (q : Fin 9216)
    (hq : q.val = l.val * 4608 + s.val * 768 + ch.val) :
    res_main_v185 V (ix2 n q)
      = Spec.stat (featAt (V (Proc.devRef .tc main_arg0)) l n ch) (maskAt (wT V) (V (Proc.devRef .tc main_arg1)) n) s.val := by
  have hw : ws (res_main_v104 V) n = maskAt (wT V) (V (Proc.devRef .tc main_arg1)) n := by
    funext p; rw [ws, mask_eq]; exact maskT_apply _ _ n p
  rw [res_eq]
  obtain ⟨l, hl⟩ := l
  have hl' : l = 0 ∨ l = 1 := by omega
  rcases hl' with rfl | rfl
  · refine (concatenate_pair_apply_left (s₁ := S16x4608) (s₂ := S16x4608) 1 _ _ _ (ix2 n q) rfl (ix2 n (⟨s.val * 768 + ch.val, by omega⟩ : Fin 4608)) fun b => match b with
      | ⟨0, _⟩ => rfl
      | ⟨1, _⟩ => by show s.val * 768 + ch.val = q.val; simp at hq; omega).trans ?_
    refine (levelT_apply (res_main_v107 V) (res_main_v104 V) n ch s _ rfl).trans ?_
    rw [hw, show xs (res_main_v107 V) n ch = featAt (V (Proc.devRef .tc main_arg0)) ⟨0, hl⟩ n ch from funext fun p => x0_apply V n ch p]
  · refine (concatenate_pair_apply_right (s₁ := S16x4608) (s₂ := S16x4608) 1 _ _ _ (ix2 n q) rfl rfl (ix2 n (⟨s.val * 768 + ch.val, by omega⟩ : Fin 4608)) (fun b => match b with
      | ⟨0, _⟩ => fun _ => rfl
      | ⟨1, _⟩ => fun h => absurd rfl h) (by show s.val * 768 + ch.val + 4608 = q.val; simp at hq; omega)).trans ?_
    refine (levelT_apply (res_main_v147 V) (res_main_v104 V) n ch s _ rfl).trans ?_
    rw [hw, show xs (res_main_v147 V) n ch = featAt (V (Proc.devRef .tc main_arg0)) ⟨1, hl⟩ n ch from funext fun p => x1_apply V n ch p]

end Cert.ReferenceIdeal.Val

end
-- ==== Proof.KerPay.lean ====
/- What the two kernel bodies compute, place by place, over the extended reals: the mask's bit, and the six rows of
   statistics of a channel over a mask. -/
module

public import proofs.«01_k».proof.Proof.Spec
public import proofs.«01_k».proof.Proof.RefVal
public import proofs.«01_k».proof.Proof.MaskI
public import proofs.«01_k».proof.Proof.StatsI
public import Idealize.ShloMosaic.Lib.ValueIdx
public import Idealize.ShloMosaic.Lib.IdealHost
public import Idealize.ShloMosaic.Lib.MatmulPlain
public import Idealize.ShloMosaic.Lib.Pipeline.Value

@[expose] public section

set_option maxRecDepth 16384

noncomputable section

namespace Cert.KernelIdeal.Val

open Cert.KernelIdeal Cert.KernelIdeal.Gen Cert.KernelIdeal.Runs
open Idealize.ShloMosaic
open Idealize.ShloMosaic.TcCoe Idealize.ShloMosaic.ValueIdx
open scoped BigOperators

/-! ## The mask kernel -/

theorem rows_apply (A : FVec Ideal S32x512 .f32) (B : FVec Ideal S512x512 .f32) (r : Fin 32) (c : Fin 512) :
    matmul dot_S32x512_S512x512_S32x512_1_0_0_1_n_n none A B (constant S32x512 .f32 0x00000000#32) (ix2 r c) = ∑ k : Fin 512, A (ix2 r k) * B (ix2 k c) := by
  refine (Ideal.matmul_plain_apply (M := 32) (K := 512) (N := 512) none A B _ r c).trans ?_
  rw [show (constant (F := Ideal) S32x512 .f32 0x00000000#32) (ix2 r c) = 0 from Ideal.ofBits_zero_f32, zero_add]

theorem cols_apply (A B : FVec Ideal S32x512 .f32) (r c : Fin 32) :
    matmul dot_S32x512_S32x512_S32x32_1_1_0_0_n_n none A B (constant S32x32 .f32 0x00000000#32) (ix2 r c) = ∑ k : Fin 512, A (ix2 r k) * B (ix2 c k) := by
  refine (Ideal.matmul_transposedRhs_apply (M := 32) (K := 512) (N := 32) none A B _ r c).trans ?_
  rw [show (constant (F := Ideal) S32x32 .f32 0x00000000#32) (ix2 r c) = 0 from Ideal.ofBits_zero_f32, zero_add]

theorem mask_pay (A : FVec Ideal S32x512 .f32) (B : FVec Ideal S1x512x512 .f32) (i j : Fin 32) :
    (k0_pay1 (F := Ideal) A B) (ix3 0 i j) = Spec.bit (Spec.resized (fun h i => A (ix2 i h)) (fun h q => B (ix3 0 h q)) i j) := by
  unfold k0_pay1
  refine (shapeCast_apply _ _ (ix3 0 i j) (ix2 i j) (by
    rw [Shape.rowMajor_val_two, Shape.rowMajor_val_three]
    show i.val * 32 + j.val = (0 * 32 + i.val) * 32 + j.val
    omega)).trans ?_
  have e : matmul dot_S32x512_S32x512_S32x32_1_1_0_0_n_n none
      (matmul dot_S32x512_S512x512_S32x512_1_0_0_1_n_n none (shapeCast S32x512 A shapeCasts_S32x512_S32x512)
        (shapeCast S512x512 B shapeCasts_S1x512x512_S512x512) (constant S32x512 .f32 0x00000000#32))
      (shapeCast S32x512 A shapeCasts_S32x512_S32x512) (constant (F := Ideal) S32x32 .f32 0x00000000#32) (ix2 i j)
      = Spec.resized (fun h i => A (ix2 i h)) (fun h q => B (ix3 0 h q)) i j := by
    rw [cols_apply, shapeCast_self]
    unfold Spec.resized
    refine Finset.sum_congr rfl fun k _ => ?_
    rw [rows_apply]
    refine congrArg (· * A (ix2 j k)) (Finset.sum_congr rfl fun h _ => ?_)
    refine congrArg (A (ix2 i h) * ·) (shapeCast_apply _ _ _ _ ?_)
    rw [Shape.rowMajor_val_two, Shape.rowMajor_val_three]
    show (0 * 512 + h.val) * 512 + k.val = h.val * 512 + k.val
    omega
  rw [← e, ← Spec.ge_eq, ← Ideal.ofBits_one_f32]
  rfl

/-! ## The statistics kernel -/

section Stats

variable (x : Vec Ideal S1x1x1024x768 .f32) (w : Vec Ideal S1x1024x1 .f32) (ch : Fin 768)

/-- One channel of a block of features. -/
abbrev xs : Fin 1024 → EReal := fun p => x (ix4 0 0 p ch)
/-- A block's mask. -/
abbrev ws : Fin 1024 → EReal := fun p => w (ix3 0 p 0)

theorem pay1_apply (p : Fin 1024) : k1_pay1 w (ix2 p 0) = ws w p :=
  shapeCast_apply _ _ _ _ (by
    rw [Shape.rowMajor_val_two, Shape.rowMajor_val_three]
    show (0 * 1024 + p.val) * 1 + 0 = p.val * 1 + 0
    omega)

theorem pay12_apply (p : Fin 1024) : k1_pay12 x (ix2 p ch) = xs x ch p :=
  shapeCast_apply _ _ _ _ (by
    rw [Shape.rowMajor_val_two, Shape.rowMajor_val_four]
    show ((0 * 1 + 0) * 1024 + p.val) * 768 + ch.val = p.val * 768 + ch.val
    omega)

theorem sum_mid (y : S1x1024x1.Idx → EReal) : ∑ i : S1x1024x1.Idx, y i = ∑ p : Fin 1024, y (ix3 0 p 0) := by
  let e : Fin 1024 ≃ S1x1024x1.Idx :=
    { toFun := fun p => ix3 0 p 0
      invFun := fun i => i 1
      left_inv := fun _ => rfl
      right_inv := fun i => funext fun a => match a with
        | ⟨0, _⟩ => Fin.ext (show 0 = (i 0).val by have h : (i 0).val < 1 := (i 0).isLt; omega)
        | ⟨1, _⟩ => rfl
        | ⟨2, _⟩ => Fin.ext (show 0 = (i 2).val by have h : (i 2).val < 1 := (i 2).isLt; omega) }
  exact (Equiv.sum_comp e y).symm

theorem pay2_eq : k1_pay2 w = Spec.cnt (ws w) := by
  unfold k1_pay2
  refine (shapeCast_apply (s := S1) _ _ _ (ValueIdx.ix1 0) (by
    rw [Shape.rowMajor_val_one, Shape.rowMajor_val_three]
    rfl)).trans ?_
  refine (Ideal.multiReduction_add_total _ _ _ (fun b => match b with | ⟨0, _⟩ => rfl) _ _ _).trans ?_
  rw [sum_mid]
  unfold Spec.cnt
  refine Finset.sum_congr rfl fun p _ => ?_
  refine (shapeCast_apply _ _ (ix3 0 p 0) (ix2 p 0) ?_).trans (pay1_apply w p)
  rw [Shape.rowMajor_val_two, Shape.rowMajor_val_three]
  show p.val * 1 + 0 = (0 * 1024 + p.val) * 1 + 0
  omega

theorem bcast_apply {α : Type} (y : S1024x1.Idx → α) (p : Fin 1024) :
    broadcastTo S1024x768 y broadcasts_S1024x1_S1024x768 (ix2 p ch) = y (ix2 p 0) :=
  broadcastTo_apply _ _ _ _ fun a => match a with | ⟨0, _⟩ => rfl | ⟨1, _⟩ => rfl

theorem pay13_apply (p : Fin 1024) : k1_pay13 (k1_pay1 w) x (ix2 p ch) = xs x ch p * ws w p := by
  unfold k1_pay13
  show k1_pay12 x (ix2 p ch) * broadcastTo S1024x768 (k1_pay1 w) broadcasts_S1024x1_S1024x768 (ix2 p ch) = _
  rw [bcast_apply, pay12_apply, pay1_apply]

theorem sum_rows (y : FVec Ideal S1024x768 .f32) (hφ hacc) :
    multiReduction .add [0] S768 y 0x00000000#32 reduces_S1024x768_S768 hφ hacc (ValueIdx.ix1 ch) = ∑ p : Fin 1024, y (ix2 p ch) :=
  (Ideal.multiReduction_add_single y _ _ hφ hacc _).trans (Finset.sum_congr rfl fun p _ => congrArg y (eq_ix2 _))

theorem pay15_apply : k1_pay15 (k1_pay1 w) x (ValueIdx.ix1 ch) = Spec.total (xs x ch) (ws w) := by
  unfold k1_pay15 Spec.total
  refine (sum_rows ch _ _ _).trans (Finset.sum_congr rfl fun p _ => pay13_apply x w ch p)

theorem pay16_apply : k1_pay16 (k1_pay1 w) x (ValueIdx.ix1 ch) = ∑ p, max (xs x ch p * ws w p) (-(xs x ch p * ws w p)) := by
  unfold k1_pay16
  refine (sum_rows ch _ _ _).trans (Finset.sum_congr rfl fun p _ => ?_)
  rw [← pay13_apply]
  rfl

theorem pay14_apply (p : Fin 1024) : k1_pay14 (k1_pay1 w) (ix2 p 0) = Ideal.cmp .ogt (ws w p) 0 := by
  unfold k1_pay14
  rw [← pay1_apply, ← Ideal.ofBits_zero_f32]
  rfl

theorem sel_apply (b : EReal) (p : Fin 1024) :
    select (broadcastTo S1024x768 (shapeCast S1024x1 (k1_pay14 (k1_pay1 w)) shapeCasts_S1024x1_S1024x1) broadcasts_S1024x1_S1024x768)
      (k1_pay12 x) (broadcast S1024x768 b) (ix2 p ch) = Scalar.select (Ideal.cmp .ogt (ws w p) 0) (xs x ch p) b := by
  rw [select_apply, bcast_apply, shapeCast_self, pay14_apply, pay12_apply]
  rfl

theorem pay17_apply : k1_pay17 (k1_pay1 w) (Scalar.ofBits .f32 0xFF800000#32) x (ValueIdx.ix1 ch) = Spec.top (xs x ch) (ws w) := by
  unfold k1_pay17 Spec.top
  refine (Ideal.multiReduction_maximumf_single _ _ _ _ _ _).trans ?_
  show (Finset.univ : Finset (Fin 1024)).fold max (Ideal.ofBits .f32 0xFF800000#32) _ = _
  rw [Cert.ReferenceIdeal.Val.neg_inf]
  refine Finset.fold_congr fun p _ => ?_
  refine Eq.trans ?_ ((sel_apply x w ch (Ideal.ofBits .f32 0xFF800000#32) p).trans (by rw [Cert.ReferenceIdeal.Val.neg_inf]))
  exact congrArg (select _ _ _) (eq_ix2 _)

theorem pay18_apply : k1_pay18 (k1_pay1 w) (Scalar.ofBits .f32 0x7F800000#32) x (ValueIdx.ix1 ch) = Spec.bot (xs x ch) (ws w) := by
  unfold k1_pay18 Spec.bot
  refine (multiReduction_minimumf_eq_fold _ _ _ _ _ _).trans ?_
  refine (Shape.Reduces.fold_filter_drop_single reduces_S1024x768_S768 _ _ _ _).trans ?_
  show (Finset.univ : Finset (Fin 1024)).fold min (Ideal.ofBits .f32 0x7F800000#32) _ = _
  rw [Cert.ReferenceIdeal.Val.pos_inf]
  refine Finset.fold_congr fun p _ => ?_
  refine Eq.trans ?_ ((sel_apply x w ch (Ideal.ofBits .f32 0x7F800000#32) p).trans (by rw [Cert.ReferenceIdeal.Val.pos_inf]))
  exact congrArg (select _ _ _) (eq_ix2 _)

theorem pay19_apply : k1_pay19 (k1_pay1 w) (k1_pay2 w) x (ValueIdx.ix1 ch) = Spec.mean (xs x ch) (ws w) := by
  unfold k1_pay19 Spec.mean
  rw [pay2_eq, ← pay15_apply, ← Ideal.ofBits_one_f32]
  rfl

theorem two_bits : Ideal.ofBits .f32 0x40000000#32 = ((2 : ℝ) : EReal) := by
  simp [Ideal.ofBits, Ideal.ieee]
  rw [← EReal.coe_mul]
  norm_num

theorem pay20_apply : k1_pay20 (k1_pay1 w) (k1_pay2 w) x (ValueIdx.ix1 ch) = Spec.varOnePass (xs x ch) (ws w) := by
  have e : multiReduction .add [0] S768 (mulf (k1_pay13 (k1_pay1 w) x) (k1_pay13 (k1_pay1 w) x)) 0x00000000#32 reduces_S1024x768_S768 (.inl rfl) rfl (ValueIdx.ix1 ch)
      = ∑ p, (xs x ch p * ws w p) * (xs x ch p * ws w p) := by
    refine (sum_rows ch _ _ _).trans (Finset.sum_congr rfl fun p _ => ?_)
    rw [mulf_apply, pay13_apply]
  unfold k1_pay20 Spec.varOnePass
  rw [← e, ← pay19_apply, ← pay15_apply, ← pay2_eq, ← two_bits, ← Ideal.ofBits_one_f32]
  rfl

/-! ## The rows the body stores -/

theorem row_apply (y : FVec Ideal S768 .f32) (a b c : Fin 1) :
    shapeCast S1x1x1x768 y shapeCasts_S768_S1x1x1x768 (ix4 a b c ch) = y (ValueIdx.ix1 ch) :=
  shapeCast_apply _ _ _ _ (by
    rw [Shape.rowMajor_val_one, Shape.rowMajor_val_four]
    have ha : a.val = 0 := by omega
    have hb : b.val = 0 := by omega
    have hc : c.val = 0 := by omega
    show ch.val = ((a.val * 1 + b.val) * 1 + c.val) * 768 + ch.val
    omega)

theorem row_piece (f : S1x1x6x768.Idx → EReal) (o : ℕ) (inb : ∀ a, (![0, 0, o, 0] : Fin 4 → ℕ) a + S1x1x1x768.size a ≤ S1x1x6x768.size a) (ho : o < 6)
    (y : FVec Ideal S768 .f32) (hy : ∀ ch : Fin 768, y (ValueIdx.ix1 ch) = f (ix4 0 0 ⟨o, ho⟩ ch)) (z : S1x1x1x768.Idx) :
    shapeCast S1x1x1x768 y shapeCasts_S768_S1x1x1x768 z = f ((Rect.unit (s := S1x1x6x768) ![0, 0, o, 0] S1x1x1x768.size inb).emb z) := by
  have h0 : (z 0).val < 1 := (z 0).isLt
  have h1 : (z 1).val < 1 := (z 1).isLt
  have h2 : (z 2).val < 1 := (z 2).isLt
  have hemb : ∀ a, (((Rect.unit (s := S1x1x6x768) ![0, 0, o, 0] S1x1x1x768.size inb).emb z) a).val = (![0, 0, o, 0] : Fin 4 → ℕ) a + 1 * (z a).val :=
    fun a => by rw [Rect.emb_apply]; rfl
  refine (congrArg (shapeCast S1x1x1x768 y shapeCasts_S768_S1x1x1x768) (eq_ix4 z)).trans ((row_apply _ y _ _ _).trans ((hy _).trans (congrArg f (funext fun a => Fin.ext ?_))))
  refine Eq.trans ?_ (hemb a).symm
  match a with
  | ⟨0, _⟩ => show 0 = 0 + 1 * (z 0).val; omega
  | ⟨1, _⟩ => show 0 = 0 + 1 * (z 1).val; omega
  | ⟨2, _⟩ => show o = o + 1 * (z 2).val; omega
  | ⟨3, _⟩ => show (z 3).val = 0 + 1 * (z 3).val; omega

theorem six_rows (f : S1x1x6x768.Idx → EReal) (y₀ y₁ y₂ y₃ y₄ y₅ : FVec Ideal S768 .f32)
    (h₀ : ∀ ch : Fin 768, y₀ (ValueIdx.ix1 ch) = f (ix4 0 0 0 ch)) (h₁ : ∀ ch : Fin 768, y₁ (ValueIdx.ix1 ch) = f (ix4 0 0 1 ch))
    (h₂ : ∀ ch : Fin 768, y₂ (ValueIdx.ix1 ch) = f (ix4 0 0 2 ch)) (h₃ : ∀ ch : Fin 768, y₃ (ValueIdx.ix1 ch) = f (ix4 0 0 3 ch))
    (h₄ : ∀ ch : Fin 768, y₄ (ValueIdx.ix1 ch) = f (ix4 0 0 4 ch)) (h₅ : ∀ ch : Fin 768, y₅ (ValueIdx.ix1 ch) = f (ix4 0 0 5 ch)) (y : S1x1x6x768.Idx) :
    View.canon (Val := Elt Ideal) (e := .f32) [⟨rO5, shapeCast S1x1x1x768 y₅ shapeCasts_S768_S1x1x1x768⟩, ⟨rO4, shapeCast S1x1x1x768 y₄ shapeCasts_S768_S1x1x1x768⟩,
      ⟨rO3, shapeCast S1x1x1x768 y₃ shapeCasts_S768_S1x1x1x768⟩, ⟨rO2, shapeCast S1x1x1x768 y₂ shapeCasts_S768_S1x1x1x768⟩,
      ⟨rO1, shapeCast S1x1x1x768 y₁ shapeCasts_S768_S1x1x1x768⟩, ⟨rO0, shapeCast S1x1x1x768 y₀ shapeCasts_S768_S1x1x1x768⟩] y = f y := by
  refine View.canon_apply_of_pieces (Val := Elt Ideal) (e := .f32) f _ ?_ _ (coverD (F := Ideal) _ _ _ _ _ _ _)
  intro p hp
  simp only [List.mem_cons, List.not_mem_nil, or_false] at hp
  rcases hp with rfl | rfl | rfl | rfl | rfl | rfl
  · exact row_piece f 5 inb_S1x1x6x768_S1x1x1x768_0_0_5_0 (by decide) y₅ h₅
  · exact row_piece f 4 inb_S1x1x6x768_S1x1x1x768_0_0_4_0 (by decide) y₄ h₄
  · exact row_piece f 3 inb_S1x1x6x768_S1x1x1x768_0_0_3_0 (by decide) y₃ h₃
  · exact row_piece f 2 inb_S1x1x6x768_S1x1x1x768_0_0_2_0 (by decide) y₂ h₂
  · exact row_piece f 1 inb_S1x1x6x768_S1x1x1x768_0_0_1_0 (by decide) y₁ h₁
  · exact row_piece f 0 inb_S1x1x6x768_S1x1x1x768_0_0_0_0 (by decide) y₀ h₀

theorem four_rows (f : S1x1x6x768.Idx → EReal) (y₃ y₄ y₅ : FVec Ideal S768 .f32) (u : FVec Ideal S1x1x3x768 .f32)
    (hu : ∀ z, u z = f (rOz.emb z)) (h₃ : ∀ ch : Fin 768, y₃ (ValueIdx.ix1 ch) = f (ix4 0 0 3 ch))
    (h₄ : ∀ ch : Fin 768, y₄ (ValueIdx.ix1 ch) = f (ix4 0 0 4 ch)) (h₅ : ∀ ch : Fin 768, y₅ (ValueIdx.ix1 ch) = f (ix4 0 0 5 ch)) (y : S1x1x6x768.Idx) :
    View.canon (Val := Elt Ideal) (e := .f32) [⟨rO5, shapeCast S1x1x1x768 y₅ shapeCasts_S768_S1x1x1x768⟩, ⟨rO4, shapeCast S1x1x1x768 y₄ shapeCasts_S768_S1x1x1x768⟩,
      ⟨rO3, shapeCast S1x1x1x768 y₃ shapeCasts_S768_S1x1x1x768⟩, ⟨rOz, u⟩] y = f y := by
  refine View.canon_apply_of_pieces (Val := Elt Ideal) (e := .f32) f _ ?_ _ (coverE (F := Ideal) _ _ _ _ _)
  intro p hp
  simp only [List.mem_cons, List.not_mem_nil, or_false] at hp
  rcases hp with rfl | rfl | rfl | rfl
  · exact row_piece f 5 inb_S1x1x6x768_S1x1x1x768_0_0_5_0 (by decide) y₅ h₅
  · exact row_piece f 4 inb_S1x1x6x768_S1x1x1x768_0_0_4_0 (by decide) y₄ h₄
  · exact row_piece f 3 inb_S1x1x6x768_S1x1x1x768_0_0_3_0 (by decide) y₃ h₃
  · exact hu

/-- The rows of a block whose mask has points. -/
theorem outD_apply (hx : ∀ ch p, ∃ r : ℝ, xs x ch p = r) (hw : ∀ p, ws w p = 0 ∨ ws w p = 1) (s : Fin 6) :
    outD x w (ix4 0 0 s ch) = Spec.stat (xs x ch) (ws w) s.val := by
  have ex : View.ld (Val := Elt Ideal) x rX = x := View.ld_unit_zero (by decide) _ x
  have ew : View.ld (Val := Elt Ideal) w rW = w := View.ld_unit_zero (by decide) _ w
  unfold outD
  rw [ex, ew]
  exact six_rows (fun y => Spec.stat (xs x (y 3)) (ws w) (y 2).val) (k1_pay19 (k1_pay1 w) (k1_pay2 w) x) (k1_pay19 (k1_pay1 w) (k1_pay2 w) x)
    (k1_pay20 (k1_pay1 w) (k1_pay2 w) x) (k1_pay17 (k1_pay1 w) (Scalar.ofBits .f32 0xFF800000#32) x)
    (k1_pay18 (k1_pay1 w) (Scalar.ofBits .f32 0x7F800000#32) x) (k1_pay16 (k1_pay1 w) x)
    (fun ch => pay19_apply x w ch) (fun ch => pay19_apply x w ch) (fun ch => (pay20_apply x w ch).trans (Spec.varOnePass_eq (hx ch) hw))
    (fun ch => pay17_apply x w ch) (fun ch => pay18_apply x w ch) (fun ch => (pay16_apply x w ch).trans (Spec.norm_eq hw)) (ix4 0 0 s ch)

/-- The rows of a block whose mask is empty. -/
theorem outE_apply (s : Fin 6) :
    outE (F := Ideal) (ix4 0 0 s ch) = if s.val < 3 then 0 else if s.val = 3 then ⊥ else if s.val = 4 then ⊤ else 0 := by
  unfold outE
  refine four_rows (fun y : S1x1x6x768.Idx => if (y 2).val < 3 then (0 : EReal) else if (y 2).val = 3 then ⊥ else if (y 2).val = 4 then ⊤ else 0)
    (broadcast S768 (Scalar.ofBits .f32 0xFF800000#32)) (broadcast S768 (Scalar.ofBits .f32 0x7F800000#32)) (broadcast S768 (Scalar.ofBits .f32 0x00000000#32)) k1_pay8
    (fun z => ?_) (fun _ => Cert.ReferenceIdeal.Val.neg_inf) (fun _ => Cert.ReferenceIdeal.Val.pos_inf) (fun _ => Ideal.ofBits_zero_f32) (ix4 0 0 s ch)
  have h2 : (z 2).val < 3 := (z 2).isLt
  have e : ((rOz.emb z) 2).val = 0 + 1 * (z 2).val := by rw [Rect.emb_apply]; rfl
  refine Eq.trans (b := (0 : EReal)) Ideal.ofBits_zero_f32 ?_
  exact (if_pos (show ((rOz.emb z) 2).val < 3 by omega)).symm

/-! ## The two conditions -/

theorem bit_ne (b : BitVec 1) : Scalar.cmpi .ne (Scalar.extui b : BitVec 32) 0#32 = 1#1 ↔ b = 1#1 := by
  revert b; decide

theorem condEmp_iff : condEmp w ↔ Spec.cnt (ws w) ≤ 0 := by
  unfold condEmp
  have ew : View.ld (Val := Elt Ideal) w rW = w := View.ld_unit_zero (by decide) _ w
  rw [bit_ne, ew, pay2_eq]
  show Ideal.cmp .ole (Spec.cnt (ws w)) (Ideal.ofBits .f32 0x00000000#32) = 1#1 ↔ _
  rw [Ideal.ofBits_zero_f32]
  unfold Ideal.cmp
  by_cases h : Spec.cnt (ws w) ≤ 0 <;> simp [h]

theorem condPos_iff : condPos w ↔ 0 < Spec.cnt (ws w) := by
  unfold condPos
  have ew : View.ld (Val := Elt Ideal) w rW = w := View.ld_unit_zero (by decide) _ w
  rw [bit_ne, ew, pay2_eq]
  show Ideal.cmp .ogt (Spec.cnt (ws w)) (Ideal.ofBits .f32 0x00000000#32) = 1#1 ↔ _
  rw [Ideal.ofBits_zero_f32]
  unfold Ideal.cmp
  by_cases h : 0 < Spec.cnt (ws w) <;> simp [h]

/-- What the body leaves, row by row: an empty mask's rows whatever the features, else the statistics of the features. -/
theorem left_apply (X : Vec Ideal S1x1x6x768 .f32) (hX : Left x w X) (hw : ∀ p, ws w p = 0 ∨ ws w p = 1)
    (f : Fin 768 → Fin 1024 → EReal) (hf : ∀ ch p, ∃ r : ℝ, f ch p = r) (hxf : 0 < Spec.cnt (ws w) → ∀ ch, xs x ch = f ch) (s : Fin 6) :
    X (ix4 0 0 s ch) = Spec.stat (f ch) (ws w) s.val := by
  by_cases h : Spec.cnt (ws w) ≤ 0
  · rw [hX.1 ((condEmp_iff w).mpr h), outE_apply, Spec.stat_empty (Spec.empty_of_cnt hw h)]
  · have hp : 0 < Spec.cnt (ws w) := not_le.mp h
    rw [hX.2 (fun e => h ((condEmp_iff w).mp e)) ((condPos_iff w).mpr hp), ← hxf hp ch]
    exact outD_apply x w ch (fun ch p => by rw [hxf hp ch]; exact hf ch p) hw s

end Stats

end Cert.KernelIdeal.Val

end
-- ==== Proof.KerHost.lean ====
/- What the host operations around the two kernels leave, over the extended reals: the resizing weights are the
   reference's, and the arrays the two calls read are the arguments and the mask rearranged. -/
module

public import proofs.«01_k».proof.Proof.RefVal
public import proofs.«01_k».proof.Proof.TableI
public import proofs.«01_k».proof.Proof.RunI
public import Idealize.ShloMosaic.Lib.ValueIdx
public import Idealize.ShloMosaic.Lib.IdealHost
public import Idealize.ShloMosaic.Lib.Pipeline.Value

@[expose] public section

set_option maxRecDepth 16384

noncomputable section

namespace Cert.KernelIdeal.Val

open Cert.KernelIdeal Cert.KernelIdeal.Gen Cert.KernelIdeal.Runs
open Idealize.ShloMosaic
open Idealize.ShloMosaic.TcCoe Idealize.ShloMosaic.ValueIdx
open scoped BigOperators

variable (m : (ℓ : Loc nD τ sig) → Buf (Elt Ideal) ℓ) (c : Dev nD)

/-! ## The weights -/

section Weights

variable (U : Valuation Cert.ReferenceIdeal.τ Cert.ReferenceIdeal.sig (Elt Ideal))

theorem V1_v8 : (V1 m c main_v8 : FVec Ideal S32 .f32) = Cert.ReferenceIdeal.Value.res_main_v9 U := by
  show StableHlo.after hostOps0 (V0 m c) main_v8 = _
  generalize V0 m c = W
  after_results
  rfl

theorem V1_v24 : (V1 m c main_v24 : FVec Ideal S512x32 .f32) = Cert.ReferenceIdeal.Value.res_main_v24 U := by
  show StableHlo.after hostOps0 (V0 m c) main_v24 = _
  generalize V0 m c = W
  after_results
  rfl

theorem V1_v26 : (V1 m c main_v26 : FVec Ideal S1x32 .f32) = Cert.ReferenceIdeal.Value.res_main_v26 U := by
  show StableHlo.after hostOps0 (V0 m c) main_v26 = _
  generalize V0 m c = W
  after_results
  rfl

theorem V1_v29 : (V1 m c main_v29 : IVec S1x32 1)
    = cmpf .ogt (Host.absf (Cert.ReferenceIdeal.Value.res_main_v26 U)) (broadcastInDim S1x32 ![] bcast_S_S1x32 (constant (F := Ideal) S_ .f32 0x38FA0000#32)) := by
  show StableHlo.after hostOps0 (V0 m c) main_v29 = _
  generalize V0 m c = W
  after_results
  rfl

theorem V1_v31 : (V1 m c main_v31 : IVec S1x32 1)
    = cmpf .une (Cert.ReferenceIdeal.Value.res_main_v26 U) (broadcastInDim S1x32 ![] bcast_S_S1x32 (constant (F := Ideal) S_ .f32 0x00000000#32)) := by
  show StableHlo.after hostOps0 (V0 m c) main_v31 = _
  generalize V0 m c = W
  after_results
  rfl

theorem V1_c : (V1 m c main_c : IVec S_ 32) = constantI S_ 32 1#32 := by
  show StableHlo.after hostOps0 (V0 m c) main_c = _
  generalize V0 m c = W
  after_results

theorem one_eq : sitofp .f32 (constantI S_ 32 1#32) = constant (F := Ideal) S_ .f32 0x3F800000#32 := by
  funext i
  rw [constant_apply, Ideal.ofBits_one_f32]
  show (((1#32 : BitVec 32).toInt : ℝ) : EReal) = 1
  norm_num

theorem zero_eq : sitofp .f32 (constantI S_ 32 0#32) = constant (F := Ideal) S_ .f32 0x00000000#32 := by
  funext i
  rw [constant_apply, Ideal.ofBits_zero_f32]
  show (((0#32 : BitVec 32).toInt : ℝ) : EReal) = 0
  norm_num

abbrev whereT (M : IVec S1x32 1) (X : FVec Ideal S1x32 .f32) (k : IVec S_ 32) : FVec Ideal S1x32 .f32 :=
  select M X (broadcastInDim S1x32 ![] bcast_S_S1x32 (sitofp .f32 k))

abbrev whereU (M : IVec S1x32 1) (X : FVec Ideal S512x32 .f32) (k : IVec S_ 32) : FVec Ideal S512x32 .f32 :=
  select (broadcastInDim S512x32 ![0, 1] bcast_S1x32_S512x32_0_1 M) X (broadcastInDim S512x32 ![] bcast_S_S512x32 (sitofp .f32 k))

abbrev ratioT (X : FVec Ideal S512x32 .f32) (Y : FVec Ideal S1x32 .f32) : FVec Ideal S512x32 .f32 :=
  Host.divf X (broadcastInDim S512x32 ![0, 1] bcast_S1x32_S512x32_0_1 Y)

abbrev insideT (X : FVec Ideal S32 .f32) : IVec S1x32 1 :=
  broadcastInDim S1x32 ![1] bcast_S32_S1x32_1 (andi (cmpf .oge X (broadcastInDim S32 ![] bcast_S_S32 (constant S_ .f32 0xBF000000#32)))
    (cmpf .ole X (broadcastInDim S32 ![] bcast_S_S32 (constant S_ .f32 0x43FFC000#32))))

theorem V2_v32 : (V2 m c main_v32 : FVec Ideal S1x32 .f32)
    = whereT (V1 m c main_v31) (V1 m c main_v26) (V1 m c main_c) := by
  show StableHlo.after hostOps0_1 (V1 m c) main_v32 = _
  generalize V1 m c = W
  after_results
  rfl

theorem V3_v34 : (V3 m c main_v34 : FVec Ideal S512x32 .f32)
    = ratioT (V2 m c main_v24) (V2 m c main_v32) := by
  show StableHlo.after hostOps0_2 (V2 m c) main_v34 = _
  generalize V2 m c = W
  after_results

theorem V3_c10 : (V3 m c main_c_10 : IVec S_ 32) = constantI S_ 32 0#32 := by
  show StableHlo.after hostOps0_2 (V2 m c) main_c_10 = _
  generalize V2 m c = W
  after_results

theorem V4_v35 : (V4 m c main_v35 : FVec Ideal S512x32 .f32)
    = whereU (V3 m c main_v29) (V3 m c main_v34) (V3 m c main_c_10) := by
  show StableHlo.after hostOps0_3 (V3 m c) main_v35 = _
  generalize V3 m c = W
  after_results
  rfl

theorem V5_v41 : (V5 m c main_v41 : IVec S1x32 1)
    = insideT (V4 m c main_v8) := by
  show StableHlo.after hostOps0_4 (V4 m c) main_v41 = _
  generalize V4 m c = W
  after_results

theorem V5_c13 : (V5 m c main_c_13 : IVec S_ 32) = constantI S_ 32 0#32 := by
  show StableHlo.after hostOps0_4 (V4 m c) main_c_13 = _
  generalize V4 m c = W
  after_results

theorem V6_v42 : (V6 m c main_v42 : FVec Ideal S512x32 .f32)
    = whereU (V5 m c main_v41) (V5 m c main_v35) (V5 m c main_c_13) := by
  show StableHlo.after hostOps0_5 (V5 m c) main_v42 = _
  generalize V5 m c = W
  after_results
  rfl

/-- The kernel's weights are the reference's. -/
theorem weights : (V6 m c main_v42 : FVec Ideal S512x32 .f32) = Cert.ReferenceIdeal.Val.wT U := by
  rw [V6_v42, V5_v41, V5_c13, V5_of m c main_v35 (by decide), V4_v35, V3_v34, V3_c10, V2_v32,
    V4_of m c main_v8 (by decide), V3_of m c main_v8 (by decide), V2_of m c main_v8 (by decide), V1_v8 m c U,
    V3_of m c main_v29 (by decide), V2_of m c main_v29 (by decide), V1_v29 m c U,
    V2_of m c main_v24 (by decide), V1_v24 m c U, V1_v31 m c U, V1_v26 m c U, V1_c]
  unfold whereU whereT
  rw [one_eq, zero_eq]
  rfl

end Weights

/-! ## The arrays the calls read -/

theorem V7_v43 (i : Fin 32) (h : Fin 512) :
    (V7 m c main_v43 : FVec Ideal S32x512 .f32) (ix2 i h) = (V6 m c main_v42 : FVec Ideal S512x32 .f32) (ix2 h i) := by
  have e : (V7 m c main_v43 : FVec Ideal S32x512 .f32) = transpose S32x512 [1, 0] (V6 m c main_v42 : FVec Ideal S512x32 .f32) transposes_S512x32_S32x512_1_0 := by
    show StableHlo.after hostOps0_6 (V6 m c) main_v43 = _
    generalize V6 m c = W
    after_results
  rw [e]
  exact transpose_apply _ _ _ _ _ fun b => match b with | ⟨0, _⟩ => rfl | ⟨1, _⟩ => rfl

theorem V7_v44 (n : Fin 16) (h q : Fin 512) :
    (V7 m c main_v44 : FVec Ideal S16x512x512 .f32) (ix3 n h q) = (m ((c : Thread nD τ).loc main_arg1) : FVec Ideal S16x1x512x512 .f32) (ix4 n 0 h q) := by
  have e : (V7 m c main_v44 : FVec Ideal S16x512x512 .f32) = shapeCast S16x512x512 (V6 m c main_arg1 : FVec Ideal S16x1x512x512 .f32) shapeCasts_S16x1x512x512_S16x512x512 := by
    show StableHlo.after hostOps0_6 (V6 m c) main_v44 = _
    generalize V6 m c = W
    after_results
    rfl
  have e1 : V6 m c main_arg1 = m ((c : Thread nD τ).loc main_arg1) :=
    (V6_of m c main_arg1 (by decide)).trans <| (V5_of m c main_arg1 (by decide)).trans <| (V4_of m c main_arg1 (by decide)).trans <| (V3_of m c main_arg1 (by decide)).trans <| (V2_of m c main_arg1 (by decide)).trans <| V1_of m c main_arg1 (by decide)
  rw [e, e1]
  exact shapeCast_apply (s := S16x1x512x512) _ _ _ _ (by
    rw [Shape.rowMajor_val_four, Shape.rowMajor_val_three]
    show ((n.val * 1 + 0) * 512 + h.val) * 512 + q.val = (n.val * 512 + h.val) * 512 + q.val
    omega)

open Cert.ReferenceIdeal.Val (prow pcol)

theorem V11_v53 (l : Fin 2) (n : Fin 16) (p : Fin 1024) (ch : Fin 768) :
    (V11 m (outs0 m) c main_v53 : FVec Ideal S2x16x1024x768 .f32) (ix4 l n p ch)
      = (m ((c : Thread nD τ).loc main_arg0) : FVec Ideal S2x16x768x32x32 .f32) (ix5 l n ch (prow p) (pcol p)) := by
  have e : (V11 m (outs0 m) c main_v53 : FVec Ideal S2x16x1024x768 .f32)
      = shapeCast S2x16x1024x768 (transpose S2x16x32x32x768 [0, 1, 3, 4, 2] (V10 m (outs0 m) c main_arg0 : FVec Ideal S2x16x768x32x32 .f32) transposes_S2x16x768x32x32_S2x16x32x32x768_0_1_3_4_2)
          shapeCasts_S2x16x32x32x768_S2x16x1024x768 := by
    show StableHlo.after hostOps1_2 (V10 m (outs0 m) c) main_v53 = _
    generalize V10 m (outs0 m) c = W
    after_results
    rfl
  rw [e, ← V11_of m (outs0 m) c main_arg0 (by decide), V11_arg0]
  refine (shapeCast_apply _ _ _ (ix5 l n (prow p) (pcol p) ch) (by
    rw [Shape.rowMajor_val_five, Shape.rowMajor_val_four]
    show (((l.val * 16 + n.val) * 32 + p.val / 32) * 32 + p.val % 32) * 768 + ch.val = ((l.val * 16 + n.val) * 1024 + p.val) * 768 + ch.val
    omega)).trans ?_
  exact transpose_apply _ _ _ _ _ fun b => match b with | ⟨0, _⟩ => rfl | ⟨1, _⟩ => rfl | ⟨2, _⟩ => rfl | ⟨3, _⟩ => rfl | ⟨4, _⟩ => rfl

theorem V11_v46 (n : Fin 16) (p : Fin 1024) :
    (V11 m (outs0 m) c main_v46 : FVec Ideal S16x1024x1 .f32) (ix3 n p 0) = (V8 m (outs0 m) c main_v45 : FVec Ideal S16x32x32 .f32) (ix3 n (prow p) (pcol p)) := by
  rw [V11_of m (outs0 m) c main_v46 (by decide), V10_of m (outs0 m) c main_v46 (by decide), V9_v46]
  exact shapeCast_apply (s := S16x32x32) _ _ _ _ (by
    rw [Shape.rowMajor_val_three, Shape.rowMajor_val_three]
    show (n.val * 32 + p.val / 32) * 32 + p.val % 32 = (n.val * 1024 + p.val) * 1 + 0
    omega)

theorem after_v55 (X : Valuation τ sig (Elt Ideal)) (l : Fin 2) (n : Fin 16) (s : Fin 6) (ch : Fin 768) (q : Fin 9216)
    (hq : q.val = l.val * 4608 + s.val * 768 + ch.val) :
    (StableHlo.after hostOps2 X main_v55 : FVec Ideal S16x9216 .f32) (ix2 n q) = (X main_v54 : FVec Ideal S16x2x6x768 .f32) (ix4 n l s ch) := by
  have e : (StableHlo.after hostOps2 X main_v55 : FVec Ideal S16x9216 .f32) = shapeCast S16x9216 (X main_v54 : FVec Ideal S16x2x6x768 .f32) shapeCasts_S16x2x6x768_S16x9216 := by
    after_results
    rfl
  rw [e]
  exact shapeCast_apply (s := S16x2x6x768) _ _ _ _ (by
    rw [Shape.rowMajor_val_four, Shape.rowMajor_val_two]
    show ((n.val * 2 + l.val) * 6 + s.val) * 768 + ch.val = n.val * 9216 + q.val
    omega)

end Cert.KernelIdeal.Val

end
-- ==== Proof.KerVal.lean ====
/- The kernel's result, place by place: the statistics of Proof/Spec.lean of each channel over the resized mask. -/
module

public import proofs.«01_k».proof.Proof.KerPay
public import proofs.«01_k».proof.Proof.KerHost
public import Idealize.ShloMosaic.Lib.Pipeline.ValueKit.Geometry

@[expose] public section

set_option maxRecDepth 16384

noncomputable section

namespace Cert.KernelIdeal.Val

open Cert.KernelIdeal Cert.KernelIdeal.Gen Cert.KernelIdeal.Runs
open Idealize.ShloMosaic
open Idealize.ShloMosaic.TcCoe Idealize.ShloMosaic.ValueIdx
open scoped BigOperators

/-! ## The first call's array -/

section Mask

variable (V : (c : Dev nD) → (b : Ref sig .tc) → Buf (Elt Ideal) ((c : Thread nD τ).loc b)) (c : Dev nD)

theorem idx0_0 : ∀ t : Fin cfg0.N, win0_0.index t = ![0, 0] := (by decide +kernel : ∀ t : Fin grid0.N, _)
theorem idx0_1 : ∀ t : Fin cfg0.N, win0_1.index t = ![t.val, 0, 0] := (by decide +kernel : ∀ t : Fin grid0.N, _)
theorem idx0_2 : ∀ t : Fin cfg0.N, win0_2.index t = ![t.val, 0, 0] := (by decide +kernel : ∀ t : Fin grid0.N, _)

theorem iblk0_0_apply (t : Fin cfg0.N) (i : Fin 32) (h : Fin 512) :
    (iblk0 V c 0 t : FVec Ideal S32x512 .f32) (ix2 i h) = (V c main_v43 : FVec Ideal S32x512 .f32) (ix2 i h) := by
  blk_simp [iblk0]
  exact congrArg (V c main_v43) (by blk_ext [idx0_0])

theorem iblk0_1_apply (t : Fin cfg0.N) (h q : Fin 512) :
    (iblk0 V c 1 t : FVec Ideal S1x512x512 .f32) (ix3 0 h q) = (V c main_v44 : FVec Ideal S16x512x512 .f32) (ix3 ⟨t.val, t.isLt⟩ h q) := by
  blk_simp [iblk0]
  exact congrArg (V c main_v44) (by blk_ext [idx0_1])

theorem mask_arr (W : FVec Ideal S512x32 .f32) (G : FVec Ideal S16x1x512x512 .f32)
    (h43 : ∀ i h, (V c main_v43 : FVec Ideal S32x512 .f32) (ix2 i h) = W (ix2 h i))
    (h44 : ∀ n h q, (V c main_v44 : FVec Ideal S16x512x512 .f32) (ix3 n h q) = G (ix4 n 0 h q)) :
    (dat0 V c).arrAt 2 cfg0.N = fun i : S16x32x32.Idx =>
      Spec.bit (Spec.resized (fun h a => W (ix2 h a)) (fun h q => G (ix4 (i 0) 0 h q)) (i 1) (i 2)) := by
  refine (dat0 V c).arrAt_eq_of_covers 2 _ (by decide +kernel) fun t hf y => ?_
  blk_simp
  rw [after0_2]
  unfold out0_2
  rw [View.canon_unit_zero (by decide), View.ld_unit_zero (by decide), View.ld_unit_zero (by decide)]
  have hy : y = ix3 0 (y 1) (y 2) := funext fun a => match a with
    | ⟨0, _⟩ => Fin.ext (show (y 0).val = 0 by have h : (y 0).val < 1 := (y 0).isLt; omega)
    | ⟨1, _⟩ => rfl
    | ⟨2, _⟩ => rfl
  refine (congrArg _ hy).trans ((mask_pay _ _ (y 1) (y 2)).trans ?_)
  have e0 : ((win0_2.blk t).view.emb y) 0 = (⟨t.val, t.isLt⟩ : Fin 16) := by
    apply Fin.ext
    blk_simp [idx0_2]
  have e1 : ((win0_2.blk t).view.emb y) 1 = (y 1 : Fin 32) := by
    apply Fin.ext
    blk_simp [idx0_2]
  have e2 : ((win0_2.blk t).view.emb y) 2 = (y 2 : Fin 32) := by
    apply Fin.ext
    blk_simp [idx0_2]
  rw [e0, e1, e2]
  have f0 : (fun (h : Fin 512) (i : Fin 32) => (iblk0 V c 0 t : FVec Ideal S32x512 .f32) (ix2 i h)) = fun h a => W (ix2 h a) :=
    funext fun h => funext fun i => (iblk0_0_apply V c t i h).trans (h43 i h)
  have f1 : (fun (h q : Fin 512) => (iblk0 V c 1 t : FVec Ideal S1x512x512 .f32) (ix3 0 h q)) = fun h q => G (ix4 ⟨t.val, t.isLt⟩ 0 h q) :=
    funext fun h => funext fun q => (iblk0_1_apply V c t h q).trans (h44 _ h q)
  exact congrArg₂ (fun A B => Spec.bit (Spec.resized A B (y 1) (y 2))) f0 f1

end Mask

end Cert.KernelIdeal.Val

end
-- ==== Proof.KerArr.lean ====
/- The second call's blocks: what it reads at a grid point and where its result block lies. -/
module

public import proofs.«01_k».proof.Proof.KerVal
public import Idealize.ShloMosaic.Lib.Pipeline.ArrRel

@[expose] public section

set_option maxRecDepth 16384

noncomputable section

namespace Cert.KernelIdeal.Val

open Cert.KernelIdeal Cert.KernelIdeal.Gen Cert.KernelIdeal.Runs
open Idealize.ShloMosaic
open Idealize.ShloMosaic.TcCoe Idealize.ShloMosaic.ValueIdx
open scoped BigOperators

variable (V : (c : Dev nD) → (b : Ref sig .tc) → Buf (Elt Ideal) ((c : Thread nD τ).loc b)) (a1 : (pcfg1 (F := Ideal)).Adm) (c : Dev nD)

/-- The grid point of layer `l` and image `n`. -/
def pt (l : Fin 2) (n : Fin 16) : Fin grid1.N := ⟨l.val * 16 + n.val, by have := l.isLt; have := n.isLt; show _ < 32; omega⟩

theorem pt_0 : ∀ l n, (grid1.coords (pt l n) 0).val = l.val := by decide +kernel
theorem pt_1 : ∀ l n, (grid1.coords (pt l n) 1).val = n.val := by decide +kernel

theorem tr1 (l : Fin 2) (n : Fin 16) : cc1_transform_1 (grid1.coords (pt l n)) = ![n.val, 0, 0] := by
  revert l n; decide +kernel
theorem tr2 (l : Fin 2) (n : Fin 16) : cc1_transform_2 (grid1.coords (pt l n)) = ![n.val, l.val, 0, 0] := by
  revert l n; decide +kernel
theorem tr2_inj : ∀ t t' : Fin grid1.N, cc1_transform_2 (grid1.coords t) = cc1_transform_2 (grid1.coords t') → t = t' := by decide +kernel
theorem flush2 : ∀ t : Fin grid1.N, Pipeline.Window.flushOf grid1 true cc1_transform_2 t = true := by decide +kernel

theorem win2_index (t : Fin grid1.N) : ((cfg1 a1).win 2).index t = cc1_transform_2 (grid1.coords t) := rfl
theorem win2_flush (t : Fin grid1.N) : ((cfg1 a1).win 2).flush t = true := flush2 t

theorem emb2 (l : Fin 2) (n : Fin 16) (s : Fin 6) (ch : Fin 768) :
    (((cfg1 a1).win 2).blk (pt l n)).view.emb (ix4 0 0 s ch : S1x1x6x768.Idx) = (ix4 n l s ch : S16x2x6x768.Idx) := by
  funext a
  apply Fin.ext
  refine (((cfg1 a1).win 2).rect_emb_val (pt l n) (ix4 0 0 s ch : S1x1x6x768.Idx) a rfl).trans ?_
  rw [win2_index, tr2]
  fin_cases a
  · show n.val * 1 + 0 = n.val; omega
  · show l.val * 1 + 0 = l.val; omega
  · show 0 * 6 + s.val = s.val; omega
  · show 0 * 768 + ch.val = ch.val; omega

theorem res_left (X) (hX : (rd1 V a1 c).ArrAt 2 (cfg1 a1).N X) (l : Fin 2) (n : Fin 16) :
    ∃ Y : Vec Ideal S1x1x6x768 .f32, Left (iblk1 V a1 c 0 (pt l n)) (iblk1 V a1 c 1 (pt l n)) Y
      ∧ ∀ s ch, (X : FVec Ideal S16x2x6x768 .f32) (ix4 n l s ch) = Y (ix4 0 0 s ch) := by
  obtain ⟨Z, hZ, hA⟩ := hX.exists_exact
  refine ⟨Z (pt l n), Pipeline.Dat.toRRel_leaves (dat1 V a1 c) (w := 2) rfl (hZ (pt l n) (pt l n).isLt (win2_flush a1 _)), fun s ch => ?_⟩
  have e := hA (Function.update (fun _ _ _ => Classical.arbitrary _) 2 Z) fun u _ _ => by rw [Function.update_self]
  have h := Pipeline.Dat.arrAt_emb_eq_flushed ((rd1 V a1 c).withAfter (Function.update (fun _ _ _ => Classical.arbitrary _) 2 Z)) 2
    (((cfg1 a1).win 2).hdisj_of_index_inj fun t t' _ _ hi => tr2_inj t t' hi) (pt l n) (win2_flush a1 _) (ix4 0 0 s ch : S1x1x6x768.Idx)
  rw [← e] at h
  rw [← emb2 a1 l n s ch]
  refine h.trans ?_
  unfold Pipeline.Dat.flushed
  rw [Pipeline.RDat.withAfter_after, Function.update_self]
  rfl

theorem blk1_1 (l : Fin 2) (n : Fin 16) (p : Fin 1024) :
    (iblk1 V a1 c 1 (pt l n) : FVec Ideal S1x1024x1 .f32) (ix3 0 p 0) = (V c main_v46 : FVec Ideal S16x1024x1 .f32) (ix3 n p 0) := by
  show (V c main_v46 : FVec Ideal S16x1024x1 .f32) ((((cfg1 a1).win 1).blk (pt l n)).view.emb (ix3 0 p 0 : S1x1024x1.Idx)) = _
  refine congrArg (V c main_v46 : FVec Ideal S16x1024x1 .f32) (funext fun a => Fin.ext ?_)
  refine (((cfg1 a1).win 1).rect_emb_val (pt l n) (ix3 0 p 0 : S1x1024x1.Idx) a rfl).trans ?_
  rw [show ((cfg1 a1).win 1).index (pt l n) = cc1_transform_1 (grid1.coords (pt l n)) from rfl, tr1]
  fin_cases a
  · show n.val * 1 + 0 = n.val; omega
  · show 0 * 1024 + p.val = p.val; omega
  · show 0 * 1 + 0 = 0; omega

theorem tr0 (pf : pre1.Contents (Elt Ideal)) (l : Fin 2) (n : Fin 16) :
    cc1_transform_0 k1_off1_inb numel1_S1 pf (grid1.coords (pt l n)) = ![l.val, ((pf 0 : S16.Idx → BitVec 32) (ValueIdx.ix1 n)).toNat, 0, 0] := by
  have e : (Rect.unit (s := S16) ![(Scalar.indexCast (BitVec.ofNat 32 (grid1.coords (pt l n) 1).val) : Index).toNat] S1.size (k1_off1_inb (grid1.coords (pt l n)))).emb
      (Shape.Idx.first (numel1_S1.symm ▸ Nat.one_pos)) = ValueIdx.ix1 n := by
    funext a
    apply Fin.ext
    fin_cases a
    show (Scalar.indexCast (BitVec.ofNat 32 (grid1.coords (pt l n) 1).val) : Index).toNat + 1 * 0 = n.val
    rw [pt_1]
    revert n; decide
  unfold cc1_transform_0
  funext a
  fin_cases a
  · show (BitVec.ofNat 32 (grid1.coords (pt l n) 0).val).toNat = l.val
    rw [pt_0, BitVec.toNat_ofNat]
    have := l.isLt
    omega
  · show ((pf 0 : S16.Idx → BitVec 32) _).toNat = ((pf 0 : S16.Idx → BitVec 32) _).toNat
    exact congrArg (fun j => ((pf 0 : S16.Idx → BitVec 32) j).toNat) e
  · rfl
  · rfl

theorem blk1_0 (l : Fin 2) (n k : Fin 16) (hk : ((a1.1 0 : S16.Idx → BitVec 32) (ValueIdx.ix1 n)).toNat = k.val) (p : Fin 1024) (ch : Fin 768) :
    (iblk1 V a1 c 0 (pt l n) : FVec Ideal S1x1x1024x768 .f32) (ix4 0 0 p ch) = (V c main_v53 : FVec Ideal S2x16x1024x768 .f32) (ix4 l k p ch) := by
  show (V c main_v53 : FVec Ideal S2x16x1024x768 .f32) ((((cfg1 a1).win 0).blk (pt l n)).view.emb (ix4 0 0 p ch : S1x1x1024x768.Idx)) = _
  refine congrArg (V c main_v53 : FVec Ideal S2x16x1024x768 .f32) (funext fun a => Fin.ext ?_)
  refine (((cfg1 a1).win 0).rect_emb_val (pt l n) (ix4 0 0 p ch : S1x1x1024x768.Idx) a rfl).trans ?_
  rw [show ((cfg1 a1).win 0).index (pt l n) = cc1_transform_0 k1_off1_inb numel1_S1 a1.1 (grid1.coords (pt l n)) from rfl, tr0, hk]
  fin_cases a
  · show l.val * 1 + 0 = l.val; omega
  · show k.val * 1 + 0 = k.val; omega
  · show 0 * 1024 + p.val = p.val; omega
  · show 0 * 768 + ch.val = ch.val; omega

end Cert.KernelIdeal.Val

end
-- ==== Proof.KerOut.lean ====
/- The kernel's result array: at every place the statistics of Proof/Spec.lean of the argument's channel over the resized mask. -/
module

public import proofs.«01_k».proof.Proof.KerArr

@[expose] public section

set_option maxRecDepth 16384

noncomputable section

namespace Cert.KernelIdeal.Val

open Cert.KernelIdeal Cert.KernelIdeal.Gen Cert.KernelIdeal.Runs
open Cert.ReferenceIdeal.Val (maskAt wT featAt prow pcol)
open Idealize.ShloMosaic
open Idealize.ShloMosaic.TcCoe Idealize.ShloMosaic.ValueIdx
open scoped BigOperators

variable (m : (ℓ : Loc nD τ sig) → Buf (Elt Ideal) ℓ) (c : Dev nD)
variable (U : Valuation Cert.ReferenceIdeal.τ Cert.ReferenceIdeal.sig (Elt Ideal))

/-- The features and the masks the kernel is given. -/
abbrev feats : FVec Ideal S2x16x768x32x32 .f32 := m ((c : Thread nD τ).loc main_arg0)
abbrev gts : FVec Ideal S16x1x512x512 .f32 := m ((c : Thread nD τ).loc main_arg1)
/-- The resized mask of image `n`. -/
abbrev mk (n : Fin 16) : Fin 1024 → EReal := maskAt (wT U) (gts m c) n

theorem v46 (n : Fin 16) (p : Fin 1024) :
    (V11 m (outs0 m) c main_v46 : FVec Ideal S16x1024x1 .f32) (ix3 n p 0) = mk m c U n p := by
  rw [V11_v46, in_v45, mask_arr (in0 m) c (wT U) (gts m c) (fun i h => by rw [← weights m c U]; exact V7_v43 m c i h) (V7_v44 m c)]
  rfl

theorem sum_two (x : FVec Ideal S16x1024x1 .f32) (n : Fin 16) :
    Host.reduceAdd x (constant S_ .f32 0x00000000#32) reducesTo_S16x1024x1_S16_d1_2 h_S_ (ValueIdx.ix1 n) = ∑ p : Fin 1024, x (ix3 n p 0) := by
  show Ideal.ofBits .f32 0x00000000#32 + ∑ i ∈ Finset.univ.filter (fun i => (reducesTo_S16x1024x1_S16_d1_2).drop i = ValueIdx.ix1 n), x i = _
  rw [Ideal.ofBits_zero_f32, zero_add]
  refine Finset.sum_nbij' (fun i => (i 1 : Fin 1024)) (fun p => ix3 n p 0) (fun _ _ => Finset.mem_univ _) (fun p _ => ?_) (fun i hi => ?_) (fun _ _ => rfl) (fun i hi => ?_)
  · refine Finset.mem_filter.mpr ⟨Finset.mem_univ _, funext fun a => Fin.ext ?_⟩
    fin_cases a
    rfl
  all_goals
    have h0 : (i 0).val = n.val := congrArg (fun j : S16.Idx => (j 0).val) (Finset.mem_filter.mp hi).2
    have e : ix3 n (i 1 : Fin 1024) 0 = i := funext fun a => match a with
      | ⟨0, _⟩ => Fin.ext h0.symm
      | ⟨1, _⟩ => rfl
      | ⟨2, _⟩ => Fin.ext (show 0 = (i 2).val by have h : (i 2).val < 1 := (i 2).isLt; omega)
  · exact e
  · exact congrArg x e.symm

/-- The mask's column as the host flattens it before it sums it. -/
abbrev flatT (x : FVec Ideal S16x32x32 .f32) : FVec Ideal S16x1024x1 .f32 := shapeCast S16x1024x1 x shapeCasts_S16x32x32_S16x1024x1

theorem flat_apply (n : Fin 16) (p : Fin 1024) : flatT (V8 m (outs0 m) c main_v45) (ix3 n p 0) = mk m c U n p := by
  have e : flatT (V8 m (outs0 m) c main_v45) = V11 m (outs0 m) c main_v46 :=
    (V9_v46 m (outs0 m) c).symm.trans ((V10_of m (outs0 m) c main_v46 (by decide)).symm.trans (V11_of m (outs0 m) c main_v46 (by decide)).symm)
  exact (congrFun e _).trans (v46 m c U n p)

theorem pos_of_cnt (n : Fin 16) (h : 0 < Spec.cnt (mk m c U n)) : posBit m (outs0 m) c (ValueIdx.ix1 n) = 1#1 := by
  have e : Host.reduceAdd (flatT (V8 m (outs0 m) c main_v45)) (constant S_ .f32 0x00000000#32) reducesTo_S16x1024x1_S16_d1_2 h_S_ (ValueIdx.ix1 n)
      = Spec.cnt (mk m c U n) :=
    (sum_two _ n).trans (Finset.sum_congr rfl fun p _ => flat_apply m c U n p)
  refine (congrFun (V9_v49 m (outs0 m) c) (ValueIdx.ix1 n)).trans ?_
  show Ideal.cmp .ogt (Host.reduceAdd (F := Ideal) (flatT (V8 m (outs0 m) c main_v45)) (constant S_ .f32 0x00000000#32) reducesTo_S16x1024x1_S16_d1_2 h_S_ (ValueIdx.ix1 n) : EReal)
    (Ideal.ofBits .f32 0x00000000#32) = 1#1
  rw [e, Ideal.ofBits_zero_f32]
  unfold Ideal.cmp
  simp [h]

theorem table (n : Fin 16) (h : 0 < Spec.cnt (mk m c U n)) : ((tbl m 0 : S16.Idx → BitVec 32) (ValueIdx.ix1 n)).toNat = n.val := by
  obtain rfl : c = 0 := Subsingleton.elim _ _
  have e := tbl_eq m (outs0 m) 0 (ValueIdx.ix1 n)
  rw [if_pos (pos_of_cnt m 0 U n h)] at e
  refine (congrArg BitVec.toNat e).trans ?_
  show (BitVec.ofNat 32 n.val).toNat = n.val
  rw [BitVec.toNat_ofNat]
  have := n.isLt
  omega

/-- Every array the second call may leave holds the statistics at every place. -/
theorem res_stat (hfin : ∀ i, ∃ r : ℝ, feats m c i = r) (γ : Res m c) (l : Fin 2) (n : Fin 16) (s : Fin 6) (ch : Fin 768) :
    (γ.1 : FVec Ideal S16x2x6x768 .f32) (ix4 n l s ch) = Spec.stat (featAt (feats m c) l n ch) (mk m c U n) s.val := by
  obtain ⟨Y, hY, hX⟩ := res_left (in1 m) (adm m 1) c γ.1 γ.2 l n
  have hws : ws (iblk1 (in1 m) (adm m 1) c 1 (pt l n)) = mk m c U n :=
    funext fun p => (blk1_1 (in1 m) (adm m 1) c l n p).trans (v46 m c U n p)
  rw [hX s ch]
  refine (left_apply _ _ ch Y hY (fun p => ?_) (fun ch => featAt (feats m c) l n ch) (fun ch p => hfin _) (fun hc ch => ?_) s).trans ?_
  · rw [hws]; exact Spec.bit_binary _
  · rw [hws] at hc
    funext p
    exact (blk1_0 (in1 m) (adm m 1) c l n n (table m c U n hc) p ch).trans (V11_v53 m c l n p ch)
  · rw [hws]

/-- The kernel's result at column `l * 4608 + s * 768 + ch` of row `n`. -/
theorem out_apply (hfin : ∀ i, ∃ r : ℝ, feats m c i = r) (γ : Res m c) (l : Fin 2) (n : Fin 16) (s : Fin 6) (ch : Fin 768) (q : Fin 9216)
    (hq : q.val = l.val * 4608 + s.val * 768 + ch.val) :
    (StableHlo.after hostOps2 (V12X m c γ) main_v55 : FVec Ideal S16x9216 .f32) (ix2 n q)
      = Spec.stat (featAt (feats m c) l n ch) (mk m c U n) s.val := by
  have e : V12X m c γ main_v54 = γ.1 := Function.update_self ..
  refine (after_v55 (V12X m c γ) l n s ch q hq).trans ?_
  rw [e]
  exact res_stat m c U hfin γ l n s ch

end Cert.KernelIdeal.Val

end
-- ==== Proof.Equal.lean ====
/- The two results agree: over real features the kernel's array and the reference's hold the same statistics at every place. -/
module

public import proofs.«01_k».proof.Defs
public import proofs.«01_k».proof.Proof.KerOut

@[expose] public section

set_option maxRecDepth 16384

noncomputable section

namespace Cert.Proof

open Idealize.ShloMosaic Idealize.ShloMosaic.ValueIdx Idealize.SL.Sem
open Idealize.ShloMosaic.TcCoe

theorem finite_facts : Cert.Pre_finite.Facts := ⟨by decide⟩

/-- Where the absolute value is below infinity the value is a real number. -/
theorem real_of_pre (hP : Cert.Pre_finite.Facts) (X : FVec Ideal Cert.Pre_finite.S2x16x768x32x32 .f32) (G : FVec Ideal Cert.Pre_finite.S16x1x512x512 .f32)
    (h : Cert.Pre_finite.fn (F := Ideal) X G = fun _ => 1#1) (i : Cert.Pre_finite.S2x16x768x32x32.Idx) : ∃ r : ℝ, X i = r := by
  have hi : Ideal.cmp .olt (max (X i) (-(X i)) : EReal) (Ideal.ofBits .f32 0x7F800000#32) = 1#1 := congrFun h i
  rw [Cert.ReferenceIdeal.Val.pos_inf] at hi
  have hlt : (max (X i) (-(X i)) : EReal) < ⊤ := by
    by_contra hn
    unfold Ideal.cmp at hi
    simp [hn] at hi
  have h1 : (X i : EReal) ≠ ⊤ := fun e => absurd (lt_of_le_of_lt (le_max_left _ _) hlt) (by rw [e]; exact lt_irrefl _)
  have h2 : (X i : EReal) ≠ ⊥ := fun e => absurd (lt_of_le_of_lt (le_max_right _ _) hlt) (by rw [e]; simp)
  exact ⟨(X i : EReal).toReal, (EReal.coe_toReal h1 h2).symm⟩

theorem out_eq (m : (ℓ : Loc Cert.KernelIdeal.nD Cert.KernelIdeal.τ Cert.KernelIdeal.sig) → Buf (Elt Ideal) ℓ) (c : Dev Cert.KernelIdeal.nD)
    (U : Valuation Cert.ReferenceIdeal.τ Cert.ReferenceIdeal.sig (Elt Ideal))
    (h0 : U (Proc.devRef .tc Cert.ReferenceIdeal.main_arg0) = Cert.KernelIdeal.Val.feats m c)
    (h1 : U (Proc.devRef .tc Cert.ReferenceIdeal.main_arg1) = Cert.KernelIdeal.Val.gts m c)
    (hfin : ∀ i, ∃ r : ℝ, Cert.KernelIdeal.Val.feats m c i = r) (γ : Cert.KernelIdeal.Runs.Res m c) :
    (StableHlo.after Cert.KernelIdeal.Gen.hostOps2 (Cert.KernelIdeal.Runs.V12X m c γ) Cert.KernelIdeal.main_v55 : FVec Ideal Cert.KernelIdeal.S16x9216 .f32)
      = Cert.ReferenceIdeal.Value.res_main_v185 U := by
  funext i
  have hi : i = ix2 (i 0 : Fin 16) (i 1 : Fin 9216) := funext fun a => match a with
    | ⟨0, _⟩ => rfl
    | ⟨1, _⟩ => rfl
  have hlt : (i 1).val < 9216 := (i 1).isLt
  have hq : (i 1).val = (i 1).val / 4608 * 4608 + (i 1).val % 4608 / 768 * 768 + (i 1).val % 768 := by omega
  rw [hi]
  refine (Cert.KernelIdeal.Val.out_apply m c U hfin γ ⟨(i 1).val / 4608, by omega⟩ (i 0) ⟨(i 1).val % 4608 / 768, by omega⟩ ⟨(i 1).val % 768, by omega⟩ (i 1) hq).trans ?_
  refine Eq.trans ?_ (Cert.ReferenceIdeal.Val.res_apply U ⟨(i 1).val / 4608, by omega⟩ (i 0) ⟨(i 1).val % 4608 / 768, by omega⟩ ⟨(i 1).val % 768, by omega⟩ (i 1) hq).symm
  rw [h0, h1]

theorem algebraic : Cert.algebraic_KernelIdeal_ReferenceIdeal_pre_finite (hPre_finite := finite_facts) := fun m g m' g' hpre hargs =>
  ⟨fun c => Cert.ReferenceIdeal.Value.res_main_v185 (StableHlo.launchContents m' c),
    (θ_run _ _ _).mono (fun r h c => by
      obtain ⟨γ, a0, a1, e⟩ := h.1 c
      exact ⟨e.trans (out_eq m c _ (hargs c).1 (hargs c).2 (real_of_pre finite_facts _ _ (hpre c)) γ), a0, a1⟩) (Cert.KernelIdeal.Runs.run m g),
    Cert.ReferenceIdeal.Value.run m' g'⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RunB
public import proofs.«01_k».proof.Proof.RunI
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ref : Cert.quiescent_ReferenceIdeal := fun m g _ =>
  (θ_run _ _ _).mono (fun r h => ⟨fun c => (h c).2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts, finite_facts,
  fun m g _ => Cert.Kernel.Runs.frame m g, fun m g _ => Cert.KernelIdeal.Runs.frame m g, fun m g _ => Cert.KernelIdeal.Runs.frame m g,
  frame_ref, fun m g _ => frame_ref m g trivial, trivial, algebraic⟩

end Cert.Proof

end
